-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v111)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v111) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S320000 : Shape := ⟨1, ![320000]⟩
abbrev S2501 : Shape := ⟨1, ![2501]⟩
abbrev S830000 : Shape := ⟨1, ![830000]⟩
abbrev S10000x512 : Shape := ⟨2, ![10000, 512]⟩
abbrev S120000x512 : Shape := ⟨2, ![120000, 512]⟩
abbrev S120000 : Shape := ⟨1, ![120000]⟩
abbrev S700000x260 : Shape := ⟨2, ![700000, 260]⟩
abbrev S2500 : Shape := ⟨1, ![2500]⟩
abbrev S128 : Shape := ⟨1, ![128]⟩
abbrev S1x128 : Shape := ⟨2, ![1, 128]⟩
abbrev S2500x1 : Shape := ⟨2, ![2500, 1]⟩
abbrev S2500x128 : Shape := ⟨2, ![2500, 128]⟩
abbrev S_ : Shape := ⟨0, ![]⟩
abbrev S1 : Shape := ⟨1, ![1]⟩
abbrev S2500x128x1 : Shape := ⟨3, ![2500, 128, 1]⟩
abbrev S2500x128x512 : Shape := ⟨3, ![2500, 128, 512]⟩
abbrev S2500x128x260 : Shape := ⟨3, ![2500, 128, 260]⟩
abbrev S2500x128x2 : Shape := ⟨3, ![2500, 128, 2]⟩
abbrev S2500x128x256 : Shape := ⟨3, ![2500, 128, 256]⟩
abbrev S2500x1x512 : Shape := ⟨3, ![2500, 1, 512]⟩
abbrev S2500x1x256 : Shape := ⟨3, ![2500, 1, 256]⟩
abbrev S1x128x1 : Shape := ⟨3, ![1, 128, 1]⟩
abbrev S1x128x512 : Shape := ⟨3, ![1, 128, 512]⟩
abbrev S1x128x256 : Shape := ⟨3, ![1, 128, 256]⟩
abbrev S1x1x512 : Shape := ⟨3, ![1, 1, 512]⟩
abbrev S1x1x256 : Shape := ⟨3, ![1, 1, 256]⟩
abbrev S128x512 : Shape := ⟨2, ![128, 512]⟩
abbrev S128x1 : Shape := ⟨2, ![128, 1]⟩
abbrev S128x256 : Shape := ⟨2, ![128, 256]⟩
abbrev S512 : Shape := ⟨1, ![512]⟩
abbrev S256 : Shape := ⟨1, ![256]⟩
abbrev S2500x512 : Shape := ⟨2, ![2500, 512]⟩
abbrev S2500x256 : Shape := ⟨2, ![2500, 256]⟩
abbrev S2500x256x1 : Shape := ⟨3, ![2500, 256, 1]⟩
abbrev S2500x256x2 : Shape := ⟨3, ![2500, 256, 2]⟩

abbrev nBuf : Space → Nat
  | .hbm => 152
  | .vmem => 24
  | .smem => 0
  | _ => 0

abbrev hbmTy0_0 (i : Nat) : BufTy := match i % 128 with
  | 0 => ⟨S320000, .i32⟩
  | 1 => ⟨S2501, .i32⟩
  | 2 => ⟨S830000, .i32⟩
  | 3 => ⟨S830000, .i32⟩
  | 4 => ⟨S10000x512, .bf16⟩
  | 5 => ⟨S120000x512, .fp8e4m3⟩
  | 6 => ⟨S120000, .f32⟩
  | 7 => ⟨S700000x260, .i8⟩
  | 8 => ⟨S2500, .i32⟩
  | 9 => ⟨S2500, .i32⟩
  | 10 => ⟨S2500, .i32⟩
  | 11 => ⟨S128, .i32⟩
  | 12 => ⟨S1x128, .i32⟩
  | 13 => ⟨S2500x1, .i32⟩
  | 14 => ⟨S2500x128, .i32⟩
  | 15 => ⟨S2500x128, .i32⟩
  | 16 => ⟨S2500x128, .i32⟩
  | 17 => ⟨S_, .i32⟩
  | 18 => ⟨S2500x128, .i32⟩
  | 19 => ⟨S2500x128, .i32⟩
  | 20 => ⟨S2500x1, .i32⟩
  | 21 => ⟨S2500x128, .i32⟩
  | 22 => ⟨S2500x128, .i32⟩
  | 23 => ⟨S2500x128, .i1⟩
  | 24 => ⟨S1, .i32⟩
  | 25 => ⟨S_, .i32⟩
  | 26 => ⟨S2500x128, .i32⟩
  | 27 => ⟨S2500x128, .i1⟩
  | 28 => ⟨S2500x128, .i1⟩
  | 29 => ⟨S_, .i32⟩
  | 30 => ⟨S2500x128, .i32⟩
  | 31 => ⟨S2500x128, .i1⟩
  | 32 => ⟨S_, .i32⟩
  | 33 => ⟨S2500x128, .i32⟩
  | 34 => ⟨S2500x128, .i32⟩
  | 35 => ⟨S2500x128, .i32⟩
  | 36 => ⟨S2500x128x1, .i32⟩
  | 37 => ⟨S2500x128, .i32⟩
  | 38 => ⟨S_, .i32⟩
  | 39 => ⟨S2500x128, .i32⟩
  | 40 => ⟨S2500x128, .i1⟩
  | 41 => ⟨S_, .i32⟩
  | 42 => ⟨S2500x128, .i32⟩
  | 43 => ⟨S2500x128, .i32⟩
  | 44 => ⟨S2500x128, .i32⟩
  | 45 => ⟨S2500x128x1, .i32⟩
  | 46 => ⟨S2500x128, .i32⟩
  | 47 => ⟨S_, .i32⟩
  | 48 => ⟨S2500x128, .i32⟩
  | 49 => ⟨S2500x128, .i1⟩
  | 50 => ⟨S_, .i32⟩
  | 51 => ⟨S2500x128, .i32⟩
  | 52 => ⟨S2500x128, .i32⟩
  | 53 => ⟨S2500x128, .i32⟩
  | 54 => ⟨S2500x128x1, .i32⟩
  | 55 => ⟨S2500x128, .i32⟩
  | 56 => ⟨S_, .i32⟩
  | 57 => ⟨S2500x128, .i32⟩
  | 58 => ⟨S2500x128, .i1⟩
  | 59 => ⟨S_, .i32⟩
  | 60 => ⟨S_, .i32⟩
  | 61 => ⟨S2500x128, .i32⟩
  | 62 => ⟨S2500x128, .i32⟩
  | 63 => ⟨S_, .i32⟩
  | 64 => ⟨S2500x128, .i32⟩
  | 65 => ⟨S2500x128, .i1⟩
  | 66 => ⟨S_, .i32⟩
  | 67 => ⟨S2500x128, .i32⟩
  | 68 => ⟨S2500x128, .i32⟩
  | 69 => ⟨S2500x128, .i32⟩
  | 70 => ⟨S2500x128x1, .i32⟩
  | 71 => ⟨S2500x128x512, .bf16⟩
  | 72 => ⟨S2500x128x512, .f32⟩
  | 73 => ⟨S_, .i32⟩
  | 74 => ⟨S2500x128, .i32⟩
  | 75 => ⟨S2500x128, .i1⟩
  | 76 => ⟨S_, .i32⟩
  | 77 => ⟨S_, .i32⟩
  | 78 => ⟨S2500x128, .i32⟩
  | 79 => ⟨S2500x128, .i32⟩
  | 80 => ⟨S_, .i32⟩
  | 81 => ⟨S2500x128, .i32⟩
  | 82 => ⟨S2500x128, .i1⟩
  | 83 => ⟨S2500x128, .i1⟩
  | 84 => ⟨S2500x128x1, .i1⟩
  | 85 => ⟨S2500x128x1, .i32⟩
  | 86 => ⟨S_, .i32⟩
  | 87 => ⟨S2500x128, .i32⟩
  | 88 => ⟨S2500x128, .i1⟩
  | 89 => ⟨S2500x128, .i1⟩
  | 90 => ⟨S2500x128x1, .i1⟩
  | 91 => ⟨S2500x128x1, .i32⟩
  | 92 => ⟨S_, .i32⟩
  | 93 => ⟨S2500x128, .i32⟩
  | 94 => ⟨S2500x128, .i1⟩
  | 95 => ⟨S_, .i32⟩
  | 96 => ⟨S_, .i32⟩
  | 97 => ⟨S2500x128, .i32⟩
  | 98 => ⟨S2500x128, .i32⟩
  | 99 => ⟨S_, .i32⟩
  | 100 => ⟨S2500x128, .i32⟩
  | 101 => ⟨S2500x128, .i1⟩
  | 102 => ⟨S_, .i32⟩
  | 103 => ⟨S2500x128, .i32⟩
  | 104 => ⟨S2500x128, .i32⟩
  | 105 => ⟨S2500x128, .i32⟩
  | 106 => ⟨S2500x128x1, .i32⟩
  | 107 => ⟨S2500x128x260, .i8⟩
  | 108 => ⟨S2500x128x2, .i8⟩
  | 109 => ⟨S2500x128, .f16⟩
  | 110 => ⟨S2500x128x1, .f16⟩
  | 111 => ⟨S2500x128x2, .i8⟩
  | 112 => ⟨S2500x128, .f16⟩
  | 113 => ⟨S2500x128x1, .f16⟩
  | 114 => ⟨S2500x128x256, .i8⟩
  | 115 => ⟨S_, .i32⟩
  | 116 => ⟨S2500x128, .i32⟩
  | 117 => ⟨S2500x128, .i1⟩
  | 118 => ⟨S2500x128, .i1⟩
  | 119 => ⟨S2500x128x1, .i1⟩
  | 120 => ⟨S2500x128x1, .i32⟩
  | 121 => ⟨S_, .i32⟩
  | 122 => ⟨S2500x128, .i32⟩
  | 123 => ⟨S2500x128, .i1⟩
  | 124 => ⟨S_, .i32⟩
  | 125 => ⟨S2500x128, .i32⟩
  | 126 => ⟨S2500x128, .i32⟩
  | 127 => ⟨S2500x128, .i32⟩
  | _ => ⟨S320000, .i32⟩

abbrev hbmTy0_1 (i : Nat) : BufTy := match i % 128 with
  | 0 => ⟨S2500x128x1, .i32⟩
  | 1 => ⟨S2500x128x512, .fp8e4m3⟩
  | 2 => ⟨S_, .i32⟩
  | 3 => ⟨S2500x128, .i32⟩
  | 4 => ⟨S2500x128, .i1⟩
  | 5 => ⟨S_, .i32⟩
  | 6 => ⟨S2500x128, .i32⟩
  | 7 => ⟨S2500x128, .i32⟩
  | 8 => ⟨S2500x128, .i32⟩
  | 9 => ⟨S2500x128x1, .i32⟩
  | 10 => ⟨S2500x128, .f32⟩
  | 11 => ⟨S2500x128x1, .f32⟩
  | 12 => ⟨S2500x1x512, .f32⟩
  | 13 => ⟨S2500x1x256, .f32⟩
  | 14 => ⟨S2500x1x256, .f32⟩
  | 15 => ⟨S2500x512, .f32⟩
  | 16 => ⟨S2500x256, .f32⟩
  | 17 => ⟨S2500x256, .f32⟩
  | 18 => ⟨S2500x256x1, .f32⟩
  | 19 => ⟨S2500x256x1, .f32⟩
  | 20 => ⟨S2500x256x2, .f32⟩
  | 21 => ⟨S2500x512, .f32⟩
  | 22 => ⟨S2500x512, .f32⟩
  | 23 => ⟨S2500x512, .bf16⟩
  | _ => ⟨S320000, .i32⟩

abbrev hbmTy (i : Nat) : BufTy := match i / 128 with
  | 0 => hbmTy0_0 i
  | 1 => hbmTy0_1 i
  | _ => ⟨S320000, .i32⟩

abbrev bufTy : (tb : Table) → Fin (tcTables nBuf tb) → BufTy
  | .hbm, ⟨i, _⟩ => hbmTy i
  | .local _ .vmem, ⟨0, _⟩ => ⟨S1x128x1, .i32⟩
  | .local _ .vmem, ⟨1, _⟩ => ⟨S1x128x1, .i32⟩
  | .local _ .vmem, ⟨2, _⟩ => ⟨S1x128x512, .f32⟩
  | .local _ .vmem, ⟨3, _⟩ => ⟨S1x128x512, .f32⟩
  | .local _ .vmem, ⟨4, _⟩ => ⟨S1x128x1, .i32⟩
  | .local _ .vmem, ⟨5, _⟩ => ⟨S1x128x1, .i32⟩
  | .local _ .vmem, ⟨6, _⟩ => ⟨S1x128x512, .fp8e4m3⟩
  | .local _ .vmem, ⟨7, _⟩ => ⟨S1x128x512, .fp8e4m3⟩
  | .local _ .vmem, ⟨8, _⟩ => ⟨S1x128x1, .f32⟩
  | .local _ .vmem, ⟨9, _⟩ => ⟨S1x128x1, .f32⟩
  | .local _ .vmem, ⟨10, _⟩ => ⟨S1x128x1, .i32⟩
  | .local _ .vmem, ⟨11, _⟩ => ⟨S1x128x1, .i32⟩
  | .local _ .vmem, ⟨12, _⟩ => ⟨S1x128x256, .i8⟩
  | .local _ .vmem, ⟨13, _⟩ => ⟨S1x128x256, .i8⟩
  | .local _ .vmem, ⟨14, _⟩ => ⟨S1x128x1, .f16⟩
  | .local _ .vmem, ⟨15, _⟩ => ⟨S1x128x1, .f16⟩
  | .local _ .vmem, ⟨16, _⟩ => ⟨S1x128x1, .f16⟩
  | .local _ .vmem, ⟨17, _⟩ => ⟨S1x128x1, .f16⟩
  | .local _ .vmem, ⟨18, _⟩ => ⟨S1x1x512, .f32⟩
  | .local _ .vmem, ⟨19, _⟩ => ⟨S1x1x512, .f32⟩
  | .local _ .vmem, ⟨20, _⟩ => ⟨S1x1x256, .f32⟩
  | .local _ .vmem, ⟨21, _⟩ => ⟨S1x1x256, .f32⟩
  | .local _ .vmem, ⟨22, _⟩ => ⟨S1x1x256, .f32⟩
  | .local _ .vmem, ⟨23, _⟩ => ⟨S1x1x256, .f32⟩
  | _, _ => ⟨S320000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_0 : Ref sig .tc := ⟨.hbm, 29, rfl⟩
abbrev main_v20 : Ref sig .tc := ⟨.hbm, 30, rfl⟩
abbrev main_v21 : Ref sig .tc := ⟨.hbm, 31, rfl⟩
abbrev main_c_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_2 : Ref sig .tc := ⟨.hbm, 38, rfl⟩
abbrev main_v27 : Ref sig .tc := ⟨.hbm, 39, rfl⟩
abbrev main_v28 : Ref sig .tc := ⟨.hbm, 40, rfl⟩
abbrev main_c_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_4 : Ref sig .tc := ⟨.hbm, 47, rfl⟩
abbrev main_v34 : Ref sig .tc := ⟨.hbm, 48, rfl⟩
abbrev main_v35 : Ref sig .tc := ⟨.hbm, 49, rfl⟩
abbrev main_c_5 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c_6 : Ref sig .tc := ⟨.hbm, 56, rfl⟩
abbrev main_v41 : Ref sig .tc := ⟨.hbm, 57, rfl⟩
abbrev main_v42 : Ref sig .tc := ⟨.hbm, 58, rfl⟩
abbrev main_c_7 : Ref sig .tc := ⟨.hbm, 59, rfl⟩
abbrev main_call0_v0 : Ref sig .tc := ⟨.hbm, 60, rfl⟩
abbrev main_call0_v1 : Ref sig .tc := ⟨.hbm, 61, rfl⟩
abbrev main_v43 : Ref sig .tc := ⟨.hbm, 62, rfl⟩
abbrev main_c_8 : Ref sig .tc := ⟨.hbm, 63, rfl⟩
abbrev main_v44 : Ref sig .tc := ⟨.hbm, 64, rfl⟩
abbrev main_v45 : Ref sig .tc := ⟨.hbm, 65, rfl⟩
abbrev main_c_9 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_10 : Ref sig .tc := ⟨.hbm, 73, rfl⟩
abbrev main_v52 : Ref sig .tc := ⟨.hbm, 74, rfl⟩
abbrev main_v53 : Ref sig .tc := ⟨.hbm, 75, rfl⟩
abbrev main_c_11 : Ref sig .tc := ⟨.hbm, 76, rfl⟩
abbrev main_call1_v0 : Ref sig .tc := ⟨.hbm, 77, rfl⟩
abbrev main_call1_v1 : Ref sig .tc := ⟨.hbm, 78, rfl⟩
abbrev main_v54 : Ref sig .tc := ⟨.hbm, 79, rfl⟩
abbrev main_c_12 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_c_13 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_14 : Ref sig .tc := ⟨.hbm, 92, rfl⟩
abbrev main_v65 : Ref sig .tc := ⟨.hbm, 93, rfl⟩
abbrev main_v66 : Ref sig .tc := ⟨.hbm, 94, rfl⟩
abbrev main_c_15 : Ref sig .tc := ⟨.hbm, 95, rfl⟩
abbrev main_call2_v0 : Ref sig .tc := ⟨.hbm, 96, rfl⟩
abbrev main_call2_v1 : Ref sig .tc := ⟨.hbm, 97, rfl⟩
abbrev main_v67 : Ref sig .tc := ⟨.hbm, 98, rfl⟩
abbrev main_c_16 : Ref sig .tc := ⟨.hbm, 99, rfl⟩
abbrev main_v68 : Ref sig .tc := ⟨.hbm, 100, rfl⟩
abbrev main_v69 : Ref sig .tc := ⟨.hbm, 101, rfl⟩
abbrev main_c_17 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_c_18 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_c_19 : Ref sig .tc := ⟨.hbm, 121, rfl⟩
abbrev main_v87 : Ref sig .tc := ⟨.hbm, 122, rfl⟩
abbrev main_v88 : Ref sig .tc := ⟨.hbm, 123, rfl⟩
abbrev main_c_20 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_c_21 : Ref sig .tc := ⟨.hbm, 130, rfl⟩
abbrev main_v94 : Ref sig .tc := ⟨.hbm, 131, rfl⟩
abbrev main_v95 : Ref sig .tc := ⟨.hbm, 132, rfl⟩
abbrev main_c_22 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102_0 : Ref sig .tc := ⟨.hbm, 140, rfl⟩
abbrev main_v102_1 : Ref sig .tc := ⟨.hbm, 141, rfl⟩
abbrev main_v102_2 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![2500], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x256 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1 .f16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x1 .f16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S320000 : Shape := ⟨1, ![320000]⟩
abbrev S2501 : Shape := ⟨1, ![2501]⟩
abbrev S830000 : Shape := ⟨1, ![830000]⟩
abbrev S10000x512 : Shape := ⟨2, ![10000, 512]⟩
abbrev S120000x512 : Shape := ⟨2, ![120000, 512]⟩
abbrev S120000 : Shape := ⟨1, ![120000]⟩
abbrev S700000x260 : Shape := ⟨2, ![700000, 260]⟩
abbrev S2500 : Shape := ⟨1, ![2500]⟩
abbrev S128 : Shape := ⟨1, ![128]⟩
abbrev S1x128 : Shape := ⟨2, ![1, 128]⟩
abbrev S2500x1 : Shape := ⟨2, ![2500, 1]⟩
abbrev S2500x128 : Shape := ⟨2, ![2500, 128]⟩
abbrev S_ : Shape := ⟨0, ![]⟩
abbrev S1 : Shape := ⟨1, ![1]⟩
abbrev S2500x128x1 : Shape := ⟨3, ![2500, 128, 1]⟩
abbrev S2500x128x512 : Shape := ⟨3, ![2500, 128, 512]⟩
abbrev S2500x128x260 : Shape := ⟨3, ![2500, 128, 260]⟩
abbrev S2500x128x2 : Shape := ⟨3, ![2500, 128, 2]⟩
abbrev S2500x128x256 : Shape := ⟨3, ![2500, 128, 256]⟩
abbrev S2500x512 : Shape := ⟨2, ![2500, 512]⟩
abbrev S2500x256 : Shape := ⟨2, ![2500, 256]⟩
abbrev S2500x256x1 : Shape := ⟨3, ![2500, 256, 1]⟩
abbrev S2500x256x2 : Shape := ⟨3, ![2500, 256, 2]⟩

abbrev nBuf : Space → Nat
  | .hbm => 188
  | .vmem => 6
  | .smem => 0
  | _ => 0

abbrev hbmTy0_0 (i : Nat) : BufTy := match i % 128 with
  | 0 => ⟨S320000, .i32⟩
  | 1 => ⟨S2501, .i32⟩
  | 2 => ⟨S830000, .i32⟩
  | 3 => ⟨S830000, .i32⟩
  | 4 => ⟨S10000x512, .bf16⟩
  | 5 => ⟨S120000x512, .fp8e4m3⟩
  | 6 => ⟨S120000, .f32⟩
  | 7 => ⟨S700000x260, .i8⟩
  | 8 => ⟨S2500, .i32⟩
  | 9 => ⟨S2500, .i32⟩
  | 10 => ⟨S2500, .i32⟩
  | 11 => ⟨S128, .i32⟩
  | 12 => ⟨S1x128, .i32⟩
  | 13 => ⟨S2500x1, .i32⟩
  | 14 => ⟨S2500x128, .i32⟩
  | 15 => ⟨S2500x128, .i32⟩
  | 16 => ⟨S2500x128, .i32⟩
  | 17 => ⟨S_, .i32⟩
  | 18 => ⟨S2500x128, .i32⟩
  | 19 => ⟨S2500x128, .i32⟩
  | 20 => ⟨S2500x1, .i32⟩
  | 21 => ⟨S2500x128, .i32⟩
  | 22 => ⟨S2500x128, .i32⟩
  | 23 => ⟨S2500x128, .i1⟩
  | 24 => ⟨S1, .i32⟩
  | 25 => ⟨S_, .i32⟩
  | 26 => ⟨S2500x128, .i32⟩
  | 27 => ⟨S2500x128, .i1⟩
  | 28 => ⟨S2500x128, .i1⟩
  | 29 => ⟨S_, .i32⟩
  | 30 => ⟨S2500x128, .i32⟩
  | 31 => ⟨S2500x128, .i1⟩
  | 32 => ⟨S_, .i32⟩
  | 33 => ⟨S2500x128, .i32⟩
  | 34 => ⟨S2500x128, .i32⟩
  | 35 => ⟨S2500x128, .i32⟩
  | 36 => ⟨S2500x128x1, .i32⟩
  | 37 => ⟨S2500x128, .i32⟩
  | 38 => ⟨S_, .i32⟩
  | 39 => ⟨S2500x128, .i32⟩
  | 40 => ⟨S2500x128, .i1⟩
  | 41 => ⟨S_, .i32⟩
  | 42 => ⟨S2500x128, .i32⟩
  | 43 => ⟨S2500x128, .i32⟩
  | 44 => ⟨S2500x128, .i32⟩
  | 45 => ⟨S2500x128x1, .i32⟩
  | 46 => ⟨S2500x128, .i32⟩
  | 47 => ⟨S_, .i32⟩
  | 48 => ⟨S2500x128, .i32⟩
  | 49 => ⟨S2500x128, .i1⟩
  | 50 => ⟨S_, .i32⟩
  | 51 => ⟨S2500x128, .i32⟩
  | 52 => ⟨S2500x128, .i32⟩
  | 53 => ⟨S2500x128, .i32⟩
  | 54 => ⟨S2500x128x1, .i32⟩
  | 55 => ⟨S2500x128, .i32⟩
  | 56 => ⟨S_, .i32⟩
  | 57 => ⟨S2500x128, .i32⟩
  | 58 => ⟨S2500x128, .i1⟩
  | 59 => ⟨S_, .i32⟩
  | 60 => ⟨S_, .i32⟩
  | 61 => ⟨S2500x128, .i32⟩
  | 62 => ⟨S2500x128, .i32⟩
  | 63 => ⟨S_, .i32⟩
  | 64 => ⟨S2500x128, .i32⟩
  | 65 => ⟨S2500x128, .i1⟩
  | 66 => ⟨S_, .i32⟩
  | 67 => ⟨S_, .i32⟩
  | 68 => ⟨S2500x128, .i32⟩
  | 69 => ⟨S2500x128, .i32⟩
  | 70 => ⟨S_, .i32⟩
  | 71 => ⟨S2500x128, .i32⟩
  | 72 => ⟨S2500x128, .i1⟩
  | 73 => ⟨S_, .i32⟩
  | 74 => ⟨S_, .i32⟩
  | 75 => ⟨S2500x128, .i32⟩
  | 76 => ⟨S2500x128, .i32⟩
  | 77 => ⟨S_, .i32⟩
  | 78 => ⟨S2500x128, .i32⟩
  | 79 => ⟨S2500x128, .i1⟩
  | 80 => ⟨S_, .i32⟩
  | 81 => ⟨S2500x128, .i32⟩
  | 82 => ⟨S2500x128, .i32⟩
  | 83 => ⟨S2500x128, .i32⟩
  | 84 => ⟨S2500x128x1, .i32⟩
  | 85 => ⟨S2500x128x512, .bf16⟩
  | 86 => ⟨S2500x128x512, .f32⟩
  | 87 => ⟨S_, .i32⟩
  | 88 => ⟨S2500x128, .i32⟩
  | 89 => ⟨S2500x128, .i1⟩
  | 90 => ⟨S_, .i32⟩
  | 91 => ⟨S2500x128, .i32⟩
  | 92 => ⟨S2500x128, .i32⟩
  | 93 => ⟨S2500x128, .i32⟩
  | 94 => ⟨S2500x128x1, .i32⟩
  | 95 => ⟨S2500x128x260, .i8⟩
  | 96 => ⟨S2500x128x2, .i8⟩
  | 97 => ⟨S2500x128, .f16⟩
  | 98 => ⟨S2500x128x2, .i8⟩
  | 99 => ⟨S2500x128, .f16⟩
  | 100 => ⟨S_, .i32⟩
  | 101 => ⟨S2500x128, .i32⟩
  | 102 => ⟨S2500x128, .i1⟩
  | 103 => ⟨S_, .i32⟩
  | 104 => ⟨S2500x128, .i32⟩
  | 105 => ⟨S2500x128, .i32⟩
  | 106 => ⟨S2500x128, .i32⟩
  | 107 => ⟨S2500x128x1, .i32⟩
  | 108 => ⟨S2500x128x512, .fp8e4m3⟩
  | 109 => ⟨S2500x128x512, .f32⟩
  | 110 => ⟨S2500x128, .f32⟩
  | 111 => ⟨S2500x128, .f32⟩
  | 112 => ⟨S_, .i32⟩
  | 113 => ⟨S2500x128, .i32⟩
  | 114 => ⟨S2500x128, .i1⟩
  | 115 => ⟨S_, .i32⟩
  | 116 => ⟨S2500x128, .i32⟩
  | 117 => ⟨S2500x128, .i32⟩
  | 118 => ⟨S2500x128, .i32⟩
  | 119 => ⟨S2500x128x1, .i32⟩
  | 120 => ⟨S2500x128, .f32⟩
  | 121 => ⟨S2500x128x1, .f32⟩
  | 122 => ⟨S2500x128x512, .f32⟩
  | 123 => ⟨S2500x128x512, .f32⟩
  | 124 => ⟨S2500x128x1, .f32⟩
  | 125 => ⟨S2500x128x1, .f32⟩
  | 126 => ⟨S_, .i32⟩
  | 127 => ⟨S2500x128, .i32⟩
  | _ => ⟨S320000, .i32⟩

abbrev hbmTy0_1 (i : Nat) : BufTy := match i % 128 with
  | 0 => ⟨S2500x128, .i1⟩
  | 1 => ⟨S2500x128, .i1⟩
  | 2 => ⟨S2500x128x1, .i1⟩
  | 3 => ⟨S_, .i32⟩
  | 4 => ⟨S2500x128, .i32⟩
  | 5 => ⟨S2500x128, .i1⟩
  | 6 => ⟨S2500x128, .i1⟩
  | 7 => ⟨S2500x128x1, .i1⟩
  | 8 => ⟨S_, .f32⟩
  | 9 => ⟨S_, .f32⟩
  | 10 => ⟨S2500x128x512, .i1⟩
  | 11 => ⟨S2500x128x512, .f32⟩
  | 12 => ⟨S2500x128x512, .f32⟩
  | 13 => ⟨S2500x128x512, .i1⟩
  | 14 => ⟨S2500x128x512, .f32⟩
  | 15 => ⟨S2500x128x256, .i8⟩
  | 16 => ⟨S2500x128x256, .i32⟩
  | 17 => ⟨S_, .i32⟩
  | 18 => ⟨S2500x128, .i32⟩
  | 19 => ⟨S2500x128, .i1⟩
  | 20 => ⟨S2500x128, .i1⟩
  | 21 => ⟨S2500x128x1, .i1⟩
  | 22 => ⟨S_, .i32⟩
  | 23 => ⟨S2500x128x256, .i32⟩
  | 24 => ⟨S2500x128x256, .i32⟩
  | 25 => ⟨S2500x128x256, .f32⟩
  | 26 => ⟨S2500x128x256, .f32⟩
  | 27 => ⟨S2500x128x256, .f32⟩
  | 28 => ⟨S2500x128x256, .f32⟩
  | 29 => ⟨S2500x128x256, .f32⟩
  | 30 => ⟨S_, .f32⟩
  | 31 => ⟨S_, .f32⟩
  | 32 => ⟨S2500x128x256, .i1⟩
  | 33 => ⟨S2500x128x256, .f32⟩
  | 34 => ⟨S2500x128x256, .f32⟩
  | 35 => ⟨S_, .i32⟩
  | 36 => ⟨S2500x128x256, .i32⟩
  | 37 => ⟨S2500x128x256, .i32⟩
  | 38 => ⟨S2500x128x256, .f32⟩
  | 39 => ⟨S2500x128x256, .f32⟩
  | 40 => ⟨S2500x128x256, .f32⟩
  | 41 => ⟨S2500x128x256, .f32⟩
  | 42 => ⟨S2500x128x256, .f32⟩
  | 43 => ⟨S_, .f32⟩
  | 44 => ⟨S_, .f32⟩
  | 45 => ⟨S2500x128x256, .i1⟩
  | 46 => ⟨S2500x128x256, .f32⟩
  | 47 => ⟨S2500x128x256, .f32⟩
  | 48 => ⟨S_, .f32⟩
  | 49 => ⟨S2500x512, .f32⟩
  | 50 => ⟨S_, .f32⟩
  | 51 => ⟨S2500x256, .f32⟩
  | 52 => ⟨S_, .f32⟩
  | 53 => ⟨S2500x256, .f32⟩
  | 54 => ⟨S2500x256x1, .f32⟩
  | 55 => ⟨S2500x256x1, .f32⟩
  | 56 => ⟨S2500x256x2, .f32⟩
  | 57 => ⟨S2500x512, .f32⟩
  | 58 => ⟨S2500x512, .f32⟩
  | 59 => ⟨S2500x512, .bf16⟩
  | _ => ⟨S320000, .i32⟩

abbrev hbmTy (i : Nat) : BufTy := match i / 128 with
  | 0 => hbmTy0_0 i
  | 1 => hbmTy0_1 i
  | _ => ⟨S320000, .i32⟩

abbrev bufTy : (tb : Table) → Fin (tcTables nBuf tb) → BufTy
  | .hbm, ⟨i, _⟩ => hbmTy i
  | .local _ .vmem, ⟨0, _⟩ => ⟨S2500x128x512, .fp8e4m3⟩
  | .local _ .vmem, ⟨1, _⟩ => ⟨S2500x128, .f16⟩
  | .local _ .vmem, ⟨2, _⟩ => ⟨S2500x128, .f16⟩
  | .local _ .vmem, ⟨3, _⟩ => ⟨S2500x128x512, .f32⟩
  | .local _ .vmem, ⟨4, _⟩ => ⟨S2500x128, .f32⟩
  | .local _ .vmem, ⟨5, _⟩ => ⟨S2500x128, .f32⟩
  | _, _ => ⟨S320000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_0 : Ref sig .tc := ⟨.hbm, 29, rfl⟩
abbrev main_v20 : Ref sig .tc := ⟨.hbm, 30, rfl⟩
abbrev main_v21 : Ref sig .tc := ⟨.hbm, 31, rfl⟩
abbrev main_c_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_2 : Ref sig .tc := ⟨.hbm, 38, rfl⟩
abbrev main_v27 : Ref sig .tc := ⟨.hbm, 39, rfl⟩
abbrev main_v28 : Ref sig .tc := ⟨.hbm, 40, rfl⟩
abbrev main_c_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_4 : Ref sig .tc := ⟨.hbm, 47, rfl⟩
abbrev main_v34 : Ref sig .tc := ⟨.hbm, 48, rfl⟩
abbrev main_v35 : Ref sig .tc := ⟨.hbm, 49, rfl⟩
abbrev main_c_5 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c_6 : Ref sig .tc := ⟨.hbm, 56, rfl⟩
abbrev main_v41 : Ref sig .tc := ⟨.hbm, 57, rfl⟩
abbrev main_v42 : Ref sig .tc := ⟨.hbm, 58, rfl⟩
abbrev main_c_7 : Ref sig .tc := ⟨.hbm, 59, rfl⟩
abbrev main_call0_v0 : Ref sig .tc := ⟨.hbm, 60, rfl⟩
abbrev main_call0_v1 : Ref sig .tc := ⟨.hbm, 61, rfl⟩
abbrev main_v43 : Ref sig .tc := ⟨.hbm, 62, rfl⟩
abbrev main_c_8 : Ref sig .tc := ⟨.hbm, 63, rfl⟩
abbrev main_v44 : Ref sig .tc := ⟨.hbm, 64, rfl⟩
abbrev main_v45 : Ref sig .tc := ⟨.hbm, 65, rfl⟩
abbrev main_c_9 : Ref sig .tc := ⟨.hbm, 66, rfl⟩
abbrev main_call1_v0 : Ref sig .tc := ⟨.hbm, 67, rfl⟩
abbrev main_call1_v1 : Ref sig .tc := ⟨.hbm, 68, rfl⟩
abbrev main_v46 : Ref sig .tc := ⟨.hbm, 69, rfl⟩
abbrev main_c_10 : Ref sig .tc := ⟨.hbm, 70, rfl⟩
abbrev main_v47 : Ref sig .tc := ⟨.hbm, 71, rfl⟩
abbrev main_v48 : Ref sig .tc := ⟨.hbm, 72, rfl⟩
abbrev main_c_11 : Ref sig .tc := ⟨.hbm, 73, rfl⟩
abbrev main_call2_v0 : Ref sig .tc := ⟨.hbm, 74, rfl⟩
abbrev main_call2_v1 : Ref sig .tc := ⟨.hbm, 75, rfl⟩
abbrev main_v49 : Ref sig .tc := ⟨.hbm, 76, rfl⟩
abbrev main_c_12 : Ref sig .tc := ⟨.hbm, 77, rfl⟩
abbrev main_v50 : Ref sig .tc := ⟨.hbm, 78, rfl⟩
abbrev main_v51 : Ref sig .tc := ⟨.hbm, 79, rfl⟩
abbrev main_c_13 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_c_14 : Ref sig .tc := ⟨.hbm, 87, rfl⟩
abbrev main_v58 : Ref sig .tc := ⟨.hbm, 88, rfl⟩
abbrev main_v59 : Ref sig .tc := ⟨.hbm, 89, rfl⟩
abbrev main_c_15 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_c_16 : Ref sig .tc := ⟨.hbm, 100, rfl⟩
abbrev main_v69 : Ref sig .tc := ⟨.hbm, 101, rfl⟩
abbrev main_v70 : Ref sig .tc := ⟨.hbm, 102, rfl⟩
abbrev main_c_17 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76_0 : Ref sig .tc := ⟨.hbm, 109, rfl⟩
abbrev main_v76_1 : Ref sig .tc := ⟨.hbm, 110, rfl⟩
abbrev main_v76_2 : Ref sig .tc := ⟨.hbm, 111, rfl⟩
abbrev main_c_18 : Ref sig .tc := ⟨.hbm, 112, rfl⟩
abbrev main_v77 : Ref sig .tc := ⟨.hbm, 113, rfl⟩
abbrev main_v78 : Ref sig .tc := ⟨.hbm, 114, rfl⟩
abbrev main_c_19 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_c_20 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_c_21 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_cst : Ref sig .tc := ⟨.hbm, 136, rfl⟩
abbrev main_call3_v0 : Ref sig .tc := ⟨.hbm, 137, rfl⟩
abbrev main_call3_v1 : Ref sig .tc := ⟨.hbm, 138, rfl⟩
abbrev main_call3_v2 : Ref sig .tc := ⟨.hbm, 139, rfl⟩
abbrev main_v97 : Ref sig .tc := ⟨.hbm, 140, rfl⟩
abbrev main_call4_v0 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_c_22 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_c_23 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_cst_24 : Ref sig .tc := ⟨.hbm, 158, rfl⟩
abbrev main_call5_v0 : Ref sig .tc := ⟨.hbm, 159, rfl⟩
abbrev main_call5_v1 : Ref sig .tc := ⟨.hbm, 160, rfl⟩
abbrev main_call5_v2 : Ref sig .tc := ⟨.hbm, 161, rfl⟩
abbrev main_v112 : Ref sig .tc := ⟨.hbm, 162, rfl⟩
abbrev main_c_25 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_cst_26 : Ref sig .tc := ⟨.hbm, 171, rfl⟩
abbrev main_call6_v0 : Ref sig .tc := ⟨.hbm, 172, rfl⟩
abbrev main_call6_v1 : Ref sig .tc := ⟨.hbm, 173, rfl⟩
abbrev main_call6_v2 : Ref sig .tc := ⟨.hbm, 174, rfl⟩
abbrev main_v120 : Ref sig .tc := ⟨.hbm, 175, rfl⟩
abbrev main_cst_27 : Ref sig .tc := ⟨.hbm, 176, rfl⟩
abbrev main_v121 : Ref sig .tc := ⟨.hbm, 177, rfl⟩
abbrev main_cst_28 : Ref sig .tc := ⟨.hbm, 178, rfl⟩
abbrev main_v122 : Ref sig .tc := ⟨.hbm, 179, rfl⟩
abbrev main_cst_29 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2500x128x512 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2500x128 .f16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2500x128 .f16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2500x128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2500x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2500x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Block.lean ====
/-
  What one grid point of the idealized kernel computes. A point works on one bag: its three count masks, its gathered rows
  of the hot, warm and cold tables, and the scales and biases of those rows. It writes three blocks, each a sum over the
  bag's 128 slots: the hot and warm rows together, the low halves of the cold codes, and the high halves.
-/
module

public import proofs.«01_k».proof.Proof.Gen.KernelIdeal.Frame
public import Idealize.ShloMosaic.Lib.Pointwise
public import Idealize.ShloMosaic.Lib.ValueIdx
public import Idealize.ShloMosaic.Lib.Pipeline.Value

@[expose] public section

set_option maxRecDepth 16384

noncomputable section

namespace Cert.KernelIdeal.Block

open Idealize.ShloMosaic Idealize.ShloMosaic.TcCoe
open Cert.KernelIdeal Cert.KernelIdeal.Gen

/-- A mask held as a 32-bit word: set where the word is not zero. -/
abbrev counted (k : BitVec 32) : BitVec 1 := IntOp.cmpi .ne k 0#32

/-- One slot's contribution from the hot and warm tables: the hot row where the slot counts as hot, else the scaled warm
    code where it counts as warm, else zero. -/
def hotWarm (mh : BitVec 32) (hot : EReal) (mw : BitVec 32) (w s : EReal) : EReal :=
  Scalar.select (counted mh) hot (Scalar.select (counted mw) (w * s) 0)

/-- One slot's contribution from the low half of a cold code: `code & 15` scaled and shifted where the slot counts. -/
def low (mc : BitVec 32) (k : BitVec 8) (s b : EReal) : EReal :=
  Scalar.select (counted mc) (FloatOps.uitofp (F := Ideal) .f32 (IntOp.andi k 15#8) * s + b) 0

/-- One slot's contribution from the high half of a cold code: `code >> 4` scaled and shifted where the slot counts. -/
def high (mc : BitVec 32) (k : BitVec 8) (s b : EReal) : EReal :=
  Scalar.select (counted mc)
    (FloatOps.sitofp (F := Ideal) .f32 (IntOp.shrsi ArithUnit.vector (BitVec.setWidth 32 k) 4#32) * s + b) 0

/-- The first block at an index: the sum over the slots of the hot and warm contributions. -/
theorem pay7_apply (w : Vec Ideal S1x128x512 .fp8e4m3) (s : Vec Ideal S1x128x1 .f32) (mh : Vec Ideal S1x128x1 .i32)
    (hot : Vec Ideal S1x128x512 .f32) (mw : Vec Ideal S1x128x1 .i32) (y : S1x1x512.Idx) :
    k0_pay7 (k0_pay2 w s mh hot mw) y = ∑ x : Fin 128, hotWarm (mh (ix3 0 x 0)) (hot (ix3 0 x (y 2))) (mw (ix3 0 x 0))
      (w (ix3 0 x (y 2))) (s (ix3 0 x 0)) := by
  unfold k0_pay7 k0_pay2
  pointwise
  rfl

/-- The second block at an index: the sum over the slots of the low halves' contributions. -/
theorem pay8_apply (s b : Vec Ideal S1x128x1 .f16) (k : Vec Ideal S1x128x256 .i8) (mc : Vec Ideal S1x128x1 .i32)
    (y : S1x1x256.Idx) :
    k0_pay8 (k0_pay3 s) (k0_pay4 b) (k0_pay5 k) mc y = ∑ x : Fin 128, low (mc (ix3 0 x 0)) (k (ix3 0 x (y 2)))
      (s (ix3 0 x 0)) (b (ix3 0 x 0)) := by
  unfold k0_pay8 k0_pay3 k0_pay4 k0_pay5 k0_pay6
  pointwise
  rfl

/-- The third block at an index: the sum over the slots of the high halves' contributions. -/
theorem pay1_apply (s b : Vec Ideal S1x128x1 .f16) (k : Vec Ideal S1x128x256 .i8) (mc : Vec Ideal S1x128x1 .i32)
    (y : S1x1x256.Idx) :
    k0_pay1 (k0_pay9 (k0_pay3 s) (k0_pay4 b) (k0_pay5 k) mc) y = ∑ x : Fin 128, high (mc (ix3 0 x 0)) (k (ix3 0 x (y 2)))
      (s (ix3 0 x 0)) (b (ix3 0 x 0)) := by
  unfold k0_pay1 k0_pay9 k0_pay3 k0_pay4 k0_pay5 k0_pay6
  pointwise
  rfl

end Cert.KernelIdeal.Block

end
-- ==== Proof.KernelIndex.lean ====
/-
  Where the launch's blocks lie. Each of the 2500 grid points works on its own bag: its blocks are row `t` of every array, and
  the blocks of each output array fill it.

  Hand-written, untrusted.
-/
module

public import Idealize.ShloMosaic.Lib.Pipeline.ValueKit
public import proofs.«01_k».proof.Proof.Block

@[expose] public section

set_option maxRecDepth 16384

noncomputable section

namespace Cert.KernelIdeal.Arrays

open Idealize.ShloMosaic Idealize.ShloMosaic.TcCoe
open Idealize.ShloMosaic.Pipeline (Dat)
open Cert.KernelIdeal Cert.KernelIdeal.Gen Cert.KernelIdeal.Block

/-- Every window's block at point `t` is row `t` of its array. -/
theorem idx : ∀ t : Fin cfg0.N,
    win0_0.index t = ![t.val, 0, 0]
    ∧ win0_1.index t = ![t.val, 0, 0]
    ∧ win0_2.index t = ![t.val, 0, 0]
    ∧ win0_3.index t = ![t.val, 0, 0]
    ∧ win0_4.index t = ![t.val, 0, 0]
    ∧ win0_5.index t = ![t.val, 0, 0]
    ∧ win0_6.index t = ![t.val, 0, 0]
    ∧ win0_7.index t = ![t.val, 0, 0]
    ∧ win0_8.index t = ![t.val, 0, 0]
    ∧ win0_9.index t = ![t.val, 0, 0]
    ∧ win0_10.index t = ![t.val, 0, 0]
    ∧ win0_11.index t = ![t.val, 0, 0] :=
  (by decide +kernel : ∀ t : Fin grid0.N, _)

/-- The offset of every block inside its staging buffer is zero. -/
theorem hz : (![0, 0, 0] : Fin 3 → Nat) = fun _ => 0 := funext fun a => by fin_cases a <;> rfl

/-- The blocks of the first output array fill it. -/
theorem covers9 : (cfg0.win 9).Covers := by decide +kernel

/-- The blocks of the second output array fill it. -/
theorem covers10 : (cfg0.win 10).Covers := by decide +kernel

/-- The blocks of the third output array fill it. -/
theorem covers11 : (cfg0.win 11).Covers := by decide +kernel

end Cert.KernelIdeal.Arrays

end
-- ==== Proof.KernelBlocks.lean ====
/-
  The launch's input blocks: at point `t` each is row `t` of its array.

  Hand-written, untrusted.
-/
module

public import proofs.«01_k».proof.Proof.KernelIndex

@[expose] public section

set_option maxRecDepth 16384

noncomputable section

namespace Cert.KernelIdeal.Arrays

open Idealize.ShloMosaic Idealize.ShloMosaic.TcCoe
open Idealize.ShloMosaic.Pipeline (Dat)
open Cert.KernelIdeal Cert.KernelIdeal.Gen Cert.KernelIdeal.Block

variable (m : (ℓ : Loc nD τ sig) → Buf (Elt Ideal) ℓ) (c : Dev nD)

/-- Input block 0 at point `t` is row `t` of its array. -/
theorem iblk0 (t : Fin cfg0.N) (b : Fin 2500) (hb : b.val = t.val) (x : Fin 128) (y : Fin 1) :
    iblk m c 0 t (ix3 0 x y) = V m c main_v59 (ix3 b x y) := by
  have e := (idx t).1
  unfold iblk
  generalize V m c = V at *
  show V main_v59 (((cfg0.win 0).blk t).view.emb _) = _
  refine congrArg _ (funext fun a => Fin.ext ?_)
  show win0_0.index t a * win0_0.size a + 1 * _ = _
  rw [e]
  fin_cases a <;> simp [ix3, hb]

/-- Input block 1 at point `t` is row `t` of its array. -/
theorem iblk1 (t : Fin cfg0.N) (b : Fin 2500) (hb : b.val = t.val) (x : Fin 128) (y : Fin 512) :
    iblk m c 1 t (ix3 0 x y) = V m c main_v51 (ix3 b x y) := by
  have e := (idx t).2.1
  unfold iblk
  generalize V m c = V at *
  show V main_v51 (((cfg0.win 1).blk t).view.emb _) = _
  refine congrArg _ (funext fun a => Fin.ext ?_)
  show win0_1.index t a * win0_1.size a + 1 * _ = _
  rw [e]
  fin_cases a <;> simp [ix3, hb]

/-- Input block 2 at point `t` is row `t` of its array. -/
theorem iblk2 (t : Fin cfg0.N) (b : Fin 2500) (hb : b.val = t.val) (x : Fin 128) (y : Fin 1) :
    iblk m c 2 t (ix3 0 x y) = V m c main_v64 (ix3 b x y) := by
  have e := (idx t).2.2.1
  unfold iblk
  generalize V m c = V at *
  show V main_v64 (((cfg0.win 2).blk t).view.emb _) = _
  refine congrArg _ (funext fun a => Fin.ext ?_)
  show win0_2.index t a * win0_2.size a + 1 * _ = _
  rw [e]
  fin_cases a <;> simp [ix3, hb]

/-- Input block 3 at point `t` is row `t` of its array. -/
theorem iblk3 (t : Fin cfg0.N) (b : Fin 2500) (hb : b.val = t.val) (x : Fin 128) (y : Fin 512) :
    iblk m c 3 t (ix3 0 x y) = V m c main_v93 (ix3 b x y) := by
  have e := (idx t).2.2.2.1
  unfold iblk
  generalize V m c = V at *
  show V main_v93 (((cfg0.win 3).blk t).view.emb _) = _
  refine congrArg _ (funext fun a => Fin.ext ?_)
  show win0_3.index t a * win0_3.size a + 1 * _ = _
  rw [e]
  fin_cases a <;> simp [ix3, hb]

/-- Input block 4 at point `t` is row `t` of its array. -/
theorem iblk4 (t : Fin cfg0.N) (b : Fin 2500) (hb : b.val = t.val) (x : Fin 128) (y : Fin 1) :
    iblk m c 4 t (ix3 0 x y) = V m c main_v101 (ix3 b x y) := by
  have e := (idx t).2.2.2.2.1
  unfold iblk
  generalize V m c = V at *
  show V main_v101 (((cfg0.win 4).blk t).view.emb _) = _
  refine congrArg _ (funext fun a => Fin.ext ?_)
  show win0_4.index t a * win0_4.size a + 1 * _ = _
  rw [e]
  fin_cases a <;> simp [ix3, hb]

/-- Input block 5 at point `t` is row `t` of its array. -/
theorem iblk5 (t : Fin cfg0.N) (b : Fin 2500) (hb : b.val = t.val) (x : Fin 128) (y : Fin 1) :
    iblk m c 5 t (ix3 0 x y) = V m c main_v86 (ix3 b x y) := by
  have e := (idx t).2.2.2.2.2.1
  unfold iblk
  generalize V m c = V at *
  show V main_v86 (((cfg0.win 5).blk t).view.emb _) = _
  refine congrArg _ (funext fun a => Fin.ext ?_)
  show win0_5.index t a * win0_5.size a + 1 * _ = _
  rw [e]
  fin_cases a <;> simp [ix3, hb]

/-- Input block 6 at point `t` is row `t` of its array. -/
theorem iblk6 (t : Fin cfg0.N) (b : Fin 2500) (hb : b.val = t.val) (x : Fin 128) (y : Fin 256) :
    iblk m c 6 t (ix3 0 x y) = V m c main_v81 (ix3 b x y) := by
  have e := (idx t).2.2.2.2.2.2.1
  unfold iblk
  generalize V m c = V at *
  show V main_v81 (((cfg0.win 6).blk t).view.emb _) = _
  refine congrArg _ (funext fun a => Fin.ext ?_)
  show win0_6.index t a * win0_6.size a + 1 * _ = _
  rw [e]
  fin_cases a <;> simp [ix3, hb]

/-- Input block 7 at point `t` is row `t` of its array. -/
theorem iblk7 (t : Fin cfg0.N) (b : Fin 2500) (hb : b.val = t.val) (x : Fin 128) (y : Fin 1) :
    iblk m c 7 t (ix3 0 x y) = V m c main_v77 (ix3 b x y) := by
  have e := (idx t).2.2.2.2.2.2.2.1
  unfold iblk
  generalize V m c = V at *
  show V main_v77 (((cfg0.win 7).blk t).view.emb _) = _
  refine congrArg _ (funext fun a => Fin.ext ?_)
  show win0_7.index t a * win0_7.size a + 1 * _ = _
  rw [e]
  fin_cases a <;> simp [ix3, hb]

/-- Input block 8 at point `t` is row `t` of its array. -/
theorem iblk8 (t : Fin cfg0.N) (b : Fin 2500) (hb : b.val = t.val) (x : Fin 128) (y : Fin 1) :
    iblk m c 8 t (ix3 0 x y) = V m c main_v80 (ix3 b x y) := by
  have e := (idx t).2.2.2.2.2.2.2.2.1
  unfold iblk
  generalize V m c = V at *
  show V main_v80 (((cfg0.win 8).blk t).view.emb _) = _
  refine congrArg _ (funext fun a => Fin.ext ?_)
  show win0_8.index t a * win0_8.size a + 1 * _ = _
  rw [e]
  fin_cases a <;> simp [ix3, hb]

end Cert.KernelIdeal.Arrays

end
-- ==== Proof.KernelArrays.lean ====
/-
  The three arrays the idealized kernel's launch writes. Each holds, at bag `i 0` and lane `i 2`, the sum over that bag's 128
  places which `Block.lean` states, of the launch's input arrays.

  Hand-written, untrusted.
-/
module

public import proofs.«01_k».proof.Proof.KernelBlocks

@[expose] public section

set_option maxRecDepth 16384

noncomputable section

namespace Cert.KernelIdeal.Arrays

open Idealize.ShloMosaic Idealize.ShloMosaic.TcCoe
open Idealize.ShloMosaic.Pipeline (Dat)
open Cert.KernelIdeal Cert.KernelIdeal.Gen Cert.KernelIdeal.Block

variable (m : (ℓ : Loc nD τ sig) → Buf (Elt Ideal) ℓ) (c : Dev nD)

/-- What the first output array holds: at each bag and lane the sum over the bag's places of the hot and warm rows. -/
abbrev hotWarmArray : S2500x1x512.Idx → EReal := fun i => ∑ x : Fin 128,
  hotWarm (V m c main_v59 (ix3 (i 0) x 0)) (V m c main_v51 (ix3 (i 0) x (i 2))) (V m c main_v64 (ix3 (i 0) x 0))
    (V m c main_v93 (ix3 (i 0) x (i 2))) (V m c main_v101 (ix3 (i 0) x 0))

/-- What the second holds: the sum of the cold codes' low halves. -/
abbrev lowArray : S2500x1x256.Idx → EReal := fun i => ∑ x : Fin 128,
  low (V m c main_v86 (ix3 (i 0) x 0)) (V m c main_v81 (ix3 (i 0) x (i 2))) (V m c main_v77 (ix3 (i 0) x 0))
    (V m c main_v80 (ix3 (i 0) x 0))

/-- What the third holds: the sum of the cold codes' high halves. -/
abbrev highArray : S2500x1x256.Idx → EReal := fun i => ∑ x : Fin 128,
  high (V m c main_v86 (ix3 (i 0) x 0)) (V m c main_v81 (ix3 (i 0) x (i 2))) (V m c main_v77 (ix3 (i 0) x 0))
    (V m c main_v80 (ix3 (i 0) x 0))

/-- The first block point `t` writes is row `t` of that array. -/
theorem out9 (t : Fin cfg0.N) (y : S1x1x512.Idx) (i : S2500x1x512.Idx) (h0 : (i 0).val = t.val) (h2 : i 2 = y 2) :
    out0_9 (iblk m c 0 t) (iblk m c 1 t) (iblk m c 2 t) (iblk m c 3 t) (iblk m c 4 t) (iblk m c 5 t) (iblk m c 6 t)
      (iblk m c 7 t) (iblk m c 8 t) y = hotWarmArray m c i := by
  unfold_out out0_9
  rw [View.canon_unit_zero hz]
  simp only [View.ld_unit_zero (S := S1x128x1) hz, View.ld_unit_zero (S := S1x128x512) hz, View.ld_unit_zero (S := S1x128x256) hz]
  refine (pay7_apply ..).trans (Finset.sum_congr rfl fun x _ => ?_)
  exact congr (congr (congr (congr (congrArg hotWarm (iblk0 m c t (i 0) h0 x 0))
    ((iblk1 m c t (i 0) h0 x (y 2)).trans (congrArg (fun q => V m c main_v51 (ix3 (i 0) x q)) h2.symm)))
    (iblk2 m c t (i 0) h0 x 0)) ((iblk3 m c t (i 0) h0 x (y 2)).trans (congrArg (fun q => V m c main_v93 (ix3 (i 0) x q)) h2.symm)))
    (iblk4 m c t (i 0) h0 x 0)

/-- The first output array after the launch. -/
theorem final9 : (dats m 0 c).arrAt 9 cfg0.N = hotWarmArray m c := by
  refine (dats m 0 c).arrAt_eq_of_covers 9 _ covers9 fun t _ y => ?_
  have e := (idx t).2.2.2.2.2.2.2.2.2.1
  have h0 : (((cfg0.win 9).blk t).view.emb y 0 : Nat) = t.val := by
    show win0_9.index t 0 * win0_9.size 0 + 1 * (y 0 : Nat) = _
    have : (y 0 : Nat) < 1 := (y 0).isLt
    rw [e]; show t.val * 1 + 1 * (y 0 : Nat) = _; omega
  have h2 : (((cfg0.win 9).blk t).view.emb y 2) = (y 2 : Fin 512) := by
    apply Fin.ext
    show win0_9.index t 2 * win0_9.size 2 + 1 * (y 2 : Nat) = _
    rw [e]; show 0 * 512 + 1 * (y 2 : Nat) = _; omega
  blk_simp
  rw [after0_9]
  exact out9 m c t y _ h0 h2

/-- The second block point `t` writes is row `t` of that array. -/
theorem out10 (t : Fin cfg0.N) (y : S1x1x256.Idx) (i : S2500x1x256.Idx) (h0 : (i 0).val = t.val) (h2 : i 2 = y 2) :
    out0_10 (iblk m c 0 t) (iblk m c 1 t) (iblk m c 2 t) (iblk m c 3 t) (iblk m c 4 t) (iblk m c 5 t) (iblk m c 6 t)
      (iblk m c 7 t) (iblk m c 8 t) y = lowArray m c i := by
  unfold_out out0_10
  rw [View.canon_unit_zero hz]
  simp only [View.ld_unit_zero (S := S1x128x1) hz, View.ld_unit_zero (S := S1x128x512) hz, View.ld_unit_zero (S := S1x128x256) hz]
  refine (pay8_apply ..).trans (Finset.sum_congr rfl fun x _ => ?_)
  exact congr (congr (congr (congrArg low (iblk5 m c t (i 0) h0 x 0))
    ((iblk6 m c t (i 0) h0 x (y 2)).trans (congrArg (fun q => V m c main_v81 (ix3 (i 0) x q)) h2.symm)))
    (iblk7 m c t (i 0) h0 x 0)) (iblk8 m c t (i 0) h0 x 0)

/-- The second output array after the launch. -/
theorem final10 : (dats m 0 c).arrAt 10 cfg0.N = lowArray m c := by
  refine (dats m 0 c).arrAt_eq_of_covers 10 _ covers10 fun t _ y => ?_
  have e := (idx t).2.2.2.2.2.2.2.2.2.2.1
  have h0 : (((cfg0.win 10).blk t).view.emb y 0 : Nat) = t.val := by
    show win0_10.index t 0 * win0_10.size 0 + 1 * (y 0 : Nat) = _
    have : (y 0 : Nat) < 1 := (y 0).isLt
    rw [e]; show t.val * 1 + 1 * (y 0 : Nat) = _; omega
  have h2 : (((cfg0.win 10).blk t).view.emb y 2) = (y 2 : Fin 256) := by
    apply Fin.ext
    show win0_10.index t 2 * win0_10.size 2 + 1 * (y 2 : Nat) = _
    rw [e]; show 0 * 256 + 1 * (y 2 : Nat) = _; omega
  blk_simp
  rw [after0_10]
  exact out10 m c t y _ h0 h2

/-- The third block point `t` writes is row `t` of that array. -/
theorem out11 (t : Fin cfg0.N) (y : S1x1x256.Idx) (i : S2500x1x256.Idx) (h0 : (i 0).val = t.val) (h2 : i 2 = y 2) :
    out0_11 (iblk m c 0 t) (iblk m c 1 t) (iblk m c 2 t) (iblk m c 3 t) (iblk m c 4 t) (iblk m c 5 t) (iblk m c 6 t)
      (iblk m c 7 t) (iblk m c 8 t) y = highArray m c i := by
  unfold_out out0_11
  rw [View.canon_unit_zero hz]
  simp only [View.ld_unit_zero (S := S1x128x1) hz, View.ld_unit_zero (S := S1x128x512) hz, View.ld_unit_zero (S := S1x128x256) hz]
  refine (pay1_apply ..).trans (Finset.sum_congr rfl fun x _ => ?_)
  exact congr (congr (congr (congrArg high (iblk5 m c t (i 0) h0 x 0))
    ((iblk6 m c t (i 0) h0 x (y 2)).trans (congrArg (fun q => V m c main_v81 (ix3 (i 0) x q)) h2.symm)))
    (iblk7 m c t (i 0) h0 x 0)) (iblk8 m c t (i 0) h0 x 0)

/-- The third output array after the launch. -/
theorem final11 : (dats m 0 c).arrAt 11 cfg0.N = highArray m c := by
  refine (dats m 0 c).arrAt_eq_of_covers 11 _ covers11 fun t _ y => ?_
  have e := (idx t).2.2.2.2.2.2.2.2.2.2.2
  have h0 : (((cfg0.win 11).blk t).view.emb y 0 : Nat) = t.val := by
    show win0_11.index t 0 * win0_11.size 0 + 1 * (y 0 : Nat) = _
    have : (y 0 : Nat) < 1 := (y 0).isLt
    rw [e]; show t.val * 1 + 1 * (y 0 : Nat) = _; omega
  have h2 : (((cfg0.win 11).blk t).view.emb y 2) = (y 2 : Fin 256) := by
    apply Fin.ext
    show win0_11.index t 2 * win0_11.size 2 + 1 * (y 2 : Nat) = _
    rw [e]; show 0 * 256 + 1 * (y 2 : Nat) = _; omega
  blk_simp
  rw [after0_11]
  exact out11 m c t y _ h0 h2

end Cert.KernelIdeal.Arrays

end
-- ==== Proof.HostTerms.lean ====
/-
  What the host lines of both programs compute before the rows are summed, each array named once, as a function of the
  arguments: which table row every one of the 128 places of every bag reads, which of the three tables holds it, the
  gathered rows of the three tables and the masks that say which places count. The two programs spell these lines
  under different buffer names; `KernelHost.lean` and `RefHost.lean` prove that their buffers hold the arrays named here.

  Hand-written, untrusted.
-/
module

public import proofs.«01_k».proof.Proof.Gen.KernelIdeal

@[expose] public section

noncomputable section

namespace Cert.Bags

open Idealize.ShloMosaic
open Cert.KernelIdeal Cert.KernelIdeal.Gen

variable {F : FTy → Type} [FloatOps F]

/-- Contents of a buffer of shape `s` and element type `e`. -/
abbrev Arr (F : FTy → Type) (s : Shape) (e : EltTy) : Type := (⟨s, e⟩ : BufTy).Contents (Elt F)

/-- Where each bag starts in the flat list of rows. -/
def first (a1 : Arr F S2501 .i32) : Arr F S2500 .i32 :=
  extractStridedSlice S2500 ![0] a1 slices_S2501_S2500_0

/-- The places `0 … 127` of a bag, as one row. -/
def place : Arr F S1x128 .i32 := broadcastInDim S1x128 ![1] bcast_S128_S1x128_1 (iotaInDim S128 32 0)

/-- The position in the flat list of each place of each bag, before it is bounded. -/
def position (a1 : Arr F S2501 .i32) : Arr F S2500x128 .i32 :=
  addi (broadcastInDim S2500x128 ![0, 1] bcast_S2500x1_S2500x128_0_1 (broadcastInDim S2500x1 ![0] bcast_S2500_S2500x1_0 (first a1)))
    (broadcastInDim S2500x128 ![0, 1] bcast_S1x128_S2500x128_0_1 (place (F := F)))

/-- The same 32-bit word at every place of every bag. -/
def word (n : BitVec 32) : Arr F S2500x128 .i32 := broadcastInDim S2500x128 ![] bcast_S_S2500x128 (constantI S_ 32 n)

/-- The position bounded to the list. -/
def bounded (a1 : Arr F S2501 .i32) : Arr F S2500x128 .i32 := minsi (position a1) (word (F := F) 319999#32)

/-- Whether a place lies in its bag and before the list's end. -/
def inBag (a1 : Arr F S2501 .i32) : Arr F S2500x128 .i1 :=
  andi
    (cmpi .slt (broadcastInDim S2500x128 ![0, 1] bcast_S1x128_S2500x128_0_1 (place (F := F)))
      (broadcastInDim S2500x128 ![0, 1] bcast_S2500x1_S2500x128_0_1
        (broadcastInDim S2500x1 ![0] bcast_S2500_S2500x1_0
          (subi (extractStridedSlice S2500 ![1] a1 slices_S2501_S2500_1) (first a1)))))
    (cmpi .slt (position a1)
      (broadcastInDim S2500x128 ![] bcast_S_S2500x128
        (shapeCast S_ (extractStridedSlice S1 ![2500] a1 slices_S2501_S1_2500) shapeCasts_S1_S_)))

/-- An index array as a gather reads it: a negative index counted from the end of the `n` rows, and a last axis of one. -/
def wrapped (n : BitVec 32) (x : Arr F S2500x128 .i32) : Arr F S2500x128x1 .i32 :=
  broadcastInDim S2500x128x1 ![0, 1] bcast_S2500x128_S2500x128x1_0_1
    (select (cmpi .slt x (word (F := F) 0#32)) (addi x (word (F := F) n)) x)

/-- The row each place reads. -/
def rowId (a0 : Arr F S320000 .i32) (a1 : Arr F S2501 .i32) : Arr F S2500x128 .i32 :=
  Host.gather gather_S320000_S2500x128x1_S2500x128_n_0_n_n_0_2_1 a0 (wrapped 320000#32 (bounded a1))

/-- An entry of a table of all rows (its table's number, or its index there), read for every place. -/
def entry (a0 : Arr F S320000 .i32) (a1 : Arr F S2501 .i32) (a : Arr F S830000 .i32) : Arr F S2500x128 .i32 :=
  Host.gather gather_S830000_S2500x128x1_S2500x128_n_0_n_n_0_2_1 a (wrapped 830000#32 (rowId a0 a1))

/-- Whether a place's row is in table `k`. -/
def inTable (a0 : Arr F S320000 .i32) (a1 : Arr F S2501 .i32) (a2 : Arr F S830000 .i32) (k : BitVec 32) : Arr F S2500x128 .i1 :=
  cmpi .eq (entry a0 a1 a2) (word (F := F) k)

/-- A place's index in table `k`, and 0 where its row is in another one. -/
def index (a0 : Arr F S320000 .i32) (a1 : Arr F S2501 .i32) (a2 a3 : Arr F S830000 .i32) (k : BitVec 32) : Arr F S2500x128 .i32 :=
  select (inTable a0 a1 a2 k) (entry a0 a1 a3) (word (F := F) 0#32)

/-- Whether a place counts and its row is in table `k`, with a last axis of one. -/
def counts (a0 : Arr F S320000 .i32) (a1 : Arr F S2501 .i32) (a2 : Arr F S830000 .i32) (k : BitVec 32) : Arr F S2500x128x1 .i1 :=
  broadcastInDim S2500x128x1 ![0, 1] bcast_S2500x128_S2500x128x1_0_1 (andi (inBag a1) (inTable a0 a1 a2 k))

/-- `counts` as 32-bit words. -/
def countsWord (a0 : Arr F S320000 .i32) (a1 : Arr F S2501 .i32) (a2 : Arr F S830000 .i32) (k : BitVec 32) : Arr F S2500x128x1 .i32 :=
  extui 32 (counts a0 a1 a2 k) natLt_1_32

/-- The gathered rows of the hot table, widened. -/
def hotRows (a0 : Arr F S320000 .i32) (a1 : Arr F S2501 .i32) (a2 a3 : Arr F S830000 .i32) (a4 : Arr F S10000x512 .bf16) : Arr F S2500x128x512 .f32 :=
  extf .f32 (Host.gather gather_S10000x512_S2500x128x1_S2500x128x512_2_0_n_n_0_2_1512 a4 (wrapped 10000#32 (index a0 a1 a2 a3 0#32))) bitsLt_bf16_f32

/-- The gathered rows of the warm table, in their 8-bit format. -/
def warmRows (a0 : Arr F S320000 .i32) (a1 : Arr F S2501 .i32) (a2 a3 : Arr F S830000 .i32) (a5 : Arr F S120000x512 .fp8e4m3) : Arr F S2500x128x512 .fp8e4m3 :=
  Host.gather gather_S120000x512_S2500x128x1_S2500x128x512_2_0_n_n_0_2_1512 a5 (wrapped 120000#32 (index a0 a1 a2 a3 1#32))

/-- The gathered scales of the warm table, with a last axis of one. -/
def warmScale (a0 : Arr F S320000 .i32) (a1 : Arr F S2501 .i32) (a2 a3 : Arr F S830000 .i32) (a6 : Arr F S120000 .f32) : Arr F S2500x128x1 .f32 :=
  broadcastInDim S2500x128x1 ![0, 1] bcast_S2500x128_S2500x128x1_0_1
    (Host.gather gather_S120000_S2500x128x1_S2500x128_n_0_n_n_0_2_1 a6 (wrapped 120000#32 (index a0 a1 a2 a3 1#32)))

/-- The gathered packed rows of the cold table: two bytes of scale, two of bias, 256 of codes. -/
def coldRows (a0 : Arr F S320000 .i32) (a1 : Arr F S2501 .i32) (a2 a3 : Arr F S830000 .i32) (a7 : Arr F S700000x260 .i8) : Arr F S2500x128x260 .i8 :=
  Host.gather gather_S700000x260_S2500x128x1_S2500x128x260_2_0_n_n_0_2_1260 a7 (wrapped 700000#32 (index a0 a1 a2 a3 2#32))

/-- The scale of each cold row, in its 16-bit format. -/
def coldScale (a0 : Arr F S320000 .i32) (a1 : Arr F S2501 .i32) (a2 a3 : Arr F S830000 .i32) (a7 : Arr F S700000x260 .i8) : Arr F S2500x128 .f16 :=
  bitcastToFloat .f16 (Host.bitcastConvertWiden S2500x128 16
    (extractStridedSlice S2500x128x2 ![0, 0, 0] (coldRows a0 a1 a2 a3 a7) slices_S2500x128x260_S2500x128x2_0_0_0) splits_S2500x128_w16_S2500x128x2_w8)

/-- The bias of each cold row, in its 16-bit format. -/
def coldBias (a0 : Arr F S320000 .i32) (a1 : Arr F S2501 .i32) (a2 a3 : Arr F S830000 .i32) (a7 : Arr F S700000x260 .i8) : Arr F S2500x128 .f16 :=
  bitcastToFloat .f16 (Host.bitcastConvertWiden S2500x128 16
    (extractStridedSlice S2500x128x2 ![0, 0, 2] (coldRows a0 a1 a2 a3 a7) slices_S2500x128x260_S2500x128x2_0_0_2) splits_S2500x128_w16_S2500x128x2_w8)

/-- The codes of each cold row: two four-bit numbers in a byte. -/
def coldCodes (a0 : Arr F S320000 .i32) (a1 : Arr F S2501 .i32) (a2 a3 : Arr F S830000 .i32) (a7 : Arr F S700000x260 .i8) : Arr F S2500x128x256 .i8 :=
  extractStridedSlice S2500x128x256 ![0, 0, 4] (coldRows a0 a1 a2 a3 a7) slices_S2500x128x260_S2500x128x256_0_0_4

/-- A last axis of one added. -/
def column {e : EltTy} (x : Arr F S2500x128 e) : Arr F S2500x128x1 e :=
  broadcastInDim S2500x128x1 ![0, 1] bcast_S2500x128_S2500x128x1_0_1 x

end Cert.Bags

end
-- ==== Proof.RefHost.lean ====
/-
  The buffers the reference's later lines read, as the host lines before its one kernel of casts leave them: each holds the
  array of `HostTerms.lean` at the arguments' contents.

  Hand-written, untrusted.
-/
module

public import proofs.«01_k».proof.Proof.HostTerms
public import proofs.«01_k».proof.Proof.Gen.ReferenceIdeal.Frame
public import Idealize.ShloMosaic.Lib.StableHlo.RunRead

@[expose] public section

set_option maxRecDepth 16384

noncomputable section

namespace Cert.ReferenceIdeal.Host

open Idealize.ShloMosaic Idealize.ShloMosaic.TcCoe
open Cert.ReferenceIdeal Cert.ReferenceIdeal.Gen Cert.Bags

variable {F : FTy → Type} [FloatOps F]
variable (m : (ℓ : Loc nD τ sig) → Buf (Elt F) ℓ) (c : Dev nD)

/-- The contents of argument `r` on core `c` at the start. -/
abbrev arg (r : Ref sig .tc) : Buf (Elt F) ((c.tc : Thread nD τ).loc r) := m ((c.tc : Thread nD τ).loc r)

/-- The warm rows the casts read. -/
theorem V_warm : V m c main_v75 = warmRows (arg m c main_arg0) (arg m c main_arg1) (arg m c main_arg2) (arg m c main_arg3) (arg m c main_arg5) := by
  after_reads_simp
  rfl

/-- The cold scales the casts read. -/
theorem V_coldScale : V m c main_v66 = coldScale (arg m c main_arg0) (arg m c main_arg1) (arg m c main_arg2) (arg m c main_arg3) (arg m c main_arg7) := by
  after_reads_simp
  rfl

/-- The cold biases the casts read. -/
theorem V_coldBias : V m c main_v68 = coldBias (arg m c main_arg0) (arg m c main_arg1) (arg m c main_arg2) (arg m c main_arg3) (arg m c main_arg7) := by
  after_reads_simp
  rfl

/-- The hot rows. -/
theorem V_hot : V m c main_v57 = hotRows (arg m c main_arg0) (arg m c main_arg1) (arg m c main_arg2) (arg m c main_arg3) (arg m c main_arg4) := by
  after_reads_simp
  rfl

/-- Each place's index in the warm table. -/
theorem V_index : V m c main_v46 = index (arg m c main_arg0) (arg m c main_arg1) (arg m c main_arg2) (arg m c main_arg3) 1#32 := by
  after_reads_simp
  rfl

/-- The number of the table each place's row is in. -/
theorem V_entry : V m c main_v33 = entry (arg m c main_arg0) (arg m c main_arg1) (arg m c main_arg2) := by
  after_reads_simp
  rfl

/-- Whether each place counts. -/
theorem V_inBag : V m c main_v19 = inBag (arg m c main_arg1) := by
  after_reads_simp
  rfl

/-- The cold rows. -/
theorem V_cold : V m c main_v64 = coldRows (arg m c main_arg0) (arg m c main_arg1) (arg m c main_arg2) (arg m c main_arg3) (arg m c main_arg7) := by
  after_reads_simp
  rfl

end Cert.ReferenceIdeal.Host

end
-- ==== Proof.RefTail.lean ====
/-
  The reference's result as one term: the host lines after its kernel of casts, as functions of the arrays they read.

  Hand-written, untrusted.
-/
module

public import proofs.«01_k».proof.Proof.RefHost

@[expose] public section

set_option maxRecDepth 16384

noncomputable section

namespace Cert.ReferenceIdeal.Tail

open Idealize.ShloMosaic Idealize.ShloMosaic.TcCoe
open Cert.ReferenceIdeal Cert.ReferenceIdeal.Gen Cert.Bags

variable {F : FTy → Type} [FloatOps F]

/-- The last lines of both programs: the two halves of the cold sums interleaved lane by lane, added to the hot and warm
    sums, and rounded. -/
def combine (h : Arr F S2500x512 .f32) (l r : Arr F S2500x256 .f32) : Arr F S2500x512 .bf16 :=
  truncf .bf16 (addf h (shapeCast S2500x512 (concatenate S2500x256x2 2
    [⟨S2500x256x1, broadcastInDim S2500x256x1 ![0, 1] bcast_S2500x256_S2500x256x1_0_1 l⟩,
     ⟨S2500x256x1, broadcastInDim S2500x256x1 ![0, 1] bcast_S2500x256_S2500x256x1_0_1 r⟩]
    concatenates_S2500x256x1_S2500x256x1_S2500x256x2_d2) shapeCasts_S2500x256x2_S2500x512)) bitsLt_bf16_f32

/-- Places that count and whose row is in table `k`, from the two arrays that say so. -/
def mask (inB : Arr F S2500x128 .i1) (ent : Arr F S2500x128 .i32) (k : BitVec 32) : Arr F S2500x128x1 .i1 :=
  column (andi inB (cmpi .eq ent (word (F := F) k)))

/-- The sum over each bag's places of the hot rows and the scaled warm rows. -/
def hotWarmSum (mh mw : Arr F S2500x128x1 .i1) (hot warm : Arr F S2500x128x512 .f32) (scale : Arr F S2500x128x1 .f32) :
    Arr F S2500x512 .f32 :=
  Host.reduceAdd
    (select (broadcastInDim S2500x128x512 ![0, 1, 2] bcast_S2500x128x1_S2500x128x512_0_1_2 mh) hot
      (select (broadcastInDim S2500x128x512 ![0, 1, 2] bcast_S2500x128x1_S2500x128x512_0_1_2 mw)
        (mulf warm (broadcastInDim S2500x128x512 ![0, 1, 2] bcast_S2500x128x1_S2500x128x512_0_1_2 scale))
        (broadcastInDim S2500x128x512 ![] bcast_S_S2500x128x512 (constant S_ .f32 0#32))))
    (constant S_ .f32 0#32) reducesTo_S2500x128x512_S2500x512_d1 h_S_

/-- The sum over each bag's places of whole numbers scaled and shifted, where the place counts. -/
def coldSum (mc : Arr F S2500x128x1 .i1) (k : Arr F S2500x128x256 .i32) (scale bias : Arr F S2500x128 .f32) :
    Arr F S2500x256 .f32 :=
  Host.reduceAdd
    (select (broadcastInDim S2500x128x256 ![0, 1, 2] bcast_S2500x128x1_S2500x128x256_0_1_2 mc)
      (addf (mulf (sitofp .f32 k) (broadcastInDim S2500x128x256 ![0, 1, 2] bcast_S2500x128x1_S2500x128x256_0_1_2 (column scale)))
        (broadcastInDim S2500x128x256 ![0, 1, 2] bcast_S2500x128x1_S2500x128x256_0_1_2 (column bias)))
      (broadcastInDim S2500x128x256 ![] bcast_S_S2500x128x256 (constant S_ .f32 0#32)))
    (constant S_ .f32 0#32) reducesTo_S2500x128x256_S2500x256_d1 h_S_

/-- The cold codes widened to 32 bits. -/
def codes (rows : Arr F S2500x128x260 .i8) : Arr F S2500x128x256 .i32 :=
  extui 32 (extractStridedSlice S2500x128x256 ![0, 0, 4] rows slices_S2500x128x260_S2500x128x256_0_0_4) natLt_8_32

/-- The low halves of the codes. -/
def lowHalf (k : Arr F S2500x128x256 .i32) : Arr F S2500x128x256 .i32 :=
  andi k (broadcastInDim S2500x128x256 ![] bcast_S_S2500x128x256 (constantI S_ 32 15#32))

/-- The high halves of the codes. -/
def highHalf (k : Arr F S2500x128x256 .i32) : Arr F S2500x128x256 .i32 :=
  Idealize.ShloMosaic.Host.shrsi k (broadcastInDim S2500x128x256 ![] bcast_S_S2500x128x256 (constantI S_ 32 4#32))

/-- The host lines after the kernel of casts. -/
abbrev tail : List (HloOp τ sig (Elt F)) :=
  [hostOps1, hostOps1_1, hostOps1_2, hostOps1_3, hostOps1_4, hostOps1_5, hostOps1_6, hostOps1_7].flatten

variable (W : Valuation τ sig (Elt F))

/-- The hot and warm sums after the tail, from what the buffers held before it. -/
theorem after_hotWarm : StableHlo.after tail W (Proc.devRef .tc main_v121)
    = hotWarmSum (mask (W (Proc.devRef .tc main_v19)) (W (Proc.devRef .tc main_v33)) 0#32)
        (mask (W (Proc.devRef .tc main_v19)) (W (Proc.devRef .tc main_v33)) 1#32)
        (W (Proc.devRef .tc main_v57)) (W (Proc.devRef .tc main_v76_0))
        (column (Idealize.ShloMosaic.Host.gather gather_S120000_S2500x128x1_S2500x128_n_0_n_n_0_2_1 (W (Proc.devRef .tc main_arg6))
          (wrapped 120000#32 (W (Proc.devRef .tc main_v46))))) := by
  unfold tail
  after_reads_simp
  rfl

/-- The low halves' sums after the tail. -/
theorem after_low : StableHlo.after tail W (Proc.devRef .tc main_v122)
    = coldSum (mask (W (Proc.devRef .tc main_v19)) (W (Proc.devRef .tc main_v33)) 2#32)
        (lowHalf (codes (W (Proc.devRef .tc main_v64)))) (W (Proc.devRef .tc main_v76_1)) (W (Proc.devRef .tc main_v76_2)) := by
  unfold tail
  after_reads_simp
  rfl

/-- The high halves' sums after the tail. -/
theorem after_high : StableHlo.after tail W (Proc.devRef .tc main_v123)
    = coldSum (mask (W (Proc.devRef .tc main_v19)) (W (Proc.devRef .tc main_v33)) 2#32)
        (highHalf (codes (W (Proc.devRef .tc main_v64)))) (W (Proc.devRef .tc main_v76_1)) (W (Proc.devRef .tc main_v76_2)) := by
  unfold tail
  after_reads_simp
  rfl

/-- The result after the tail is the last lines at the three sums. -/
theorem after_out : StableHlo.after tail W (Proc.devRef .tc main_v129)
    = combine (StableHlo.after tail W (Proc.devRef .tc main_v121)) (StableHlo.after tail W (Proc.devRef .tc main_v122))
        (StableHlo.after tail W (Proc.devRef .tc main_v123)) := by
  unfold tail
  have hl : StableHlo.upto [hostOps1, hostOps1_1, hostOps1_2, hostOps1_3, hostOps1_4, hostOps1_5, hostOps1_6, hostOps1_7].flatten
      W 72 (Proc.devRef .tc main_v124) = broadcastInDim S2500x256x1 ![0, 1] bcast_S2500x256_S2500x256x1_0_1
        (StableHlo.after tail W (Proc.devRef .tc main_v122)) := by
    unfold tail
    after_reads_simp
  have hr : StableHlo.upto [hostOps1, hostOps1_1, hostOps1_2, hostOps1_3, hostOps1_4, hostOps1_5, hostOps1_6, hostOps1_7].flatten
      W 72 (Proc.devRef .tc main_v125) = broadcastInDim S2500x256x1 ![0, 1] bcast_S2500x256_S2500x256x1_0_1
        (StableHlo.after tail W (Proc.devRef .tc main_v123)) := by
    unfold tail
    after_reads_simp
  generalize h1 : StableHlo.after _ W (Proc.devRef .tc main_v121) = x1
  generalize h2 : StableHlo.after _ W (Proc.devRef .tc main_v122) = x2 at hl ⊢
  generalize h3 : StableHlo.after _ W (Proc.devRef .tc main_v123) = x3 at hr ⊢
  after_reads_simp
  rw [hl, hr]
  unfold combine
  rw [← h1]
  after_reads_simp
  rfl

end Cert.ReferenceIdeal.Tail

end
-- ==== Proof.KernelTail.lean ====
/-
  The kernel's result as one term: the host lines after its launch, as functions of the launch's three output arrays.

  Hand-written, untrusted.
-/
module

public import proofs.«01_k».proof.Proof.RefTail
public import proofs.«01_k».proof.Proof.Gen.KernelIdeal.Frame
public import Idealize.ShloMosaic.Lib.StableHlo.RunRead

@[expose] public section

set_option maxRecDepth 16384

noncomputable section

namespace Cert.KernelIdeal.Tail

open Idealize.ShloMosaic Idealize.ShloMosaic.TcCoe
open Cert.KernelIdeal Cert.KernelIdeal.Gen Cert.Bags
open Cert.ReferenceIdeal.Tail (combine)

variable {F : FTy → Type} [FloatOps F]
variable (W : Valuation τ sig (Elt F))

/-- The result after the lines behind the launch: the last lines of both programs at the three output arrays. -/
theorem after_out : StableHlo.after hostOps1 W (Proc.devRef .tc main_v111)
    = combine (shapeCast S2500x512 (W (Proc.devRef .tc main_v102_0)) shapeCasts_S2500x1x512_S2500x512)
        (shapeCast S2500x256 (W (Proc.devRef .tc main_v102_1)) shapeCasts_S2500x1x256_S2500x256)
        (shapeCast S2500x256 (W (Proc.devRef .tc main_v102_2)) shapeCasts_S2500x1x256_S2500x256) := by
  after_reads_simp
  rfl

variable (m : (ℓ : Loc nD τ sig) → Buf (Elt F) ℓ) (c : Dev nD)

/-- The arrays' references are distinct. -/
theorem arr_inj : Function.Injective (Pipeline.arrRef (sig := sig) spec0) := by decide

/-- The result buffer at the end, from what the launch leaves in its three output arrays. -/
theorem result : Pipeline.afterTail₀ cfgs (dats m) 0 (V0 m) [hostOps1] c main_v111
    = combine (shapeCast S2500x512 ((dats m 0 c).arrAt 9 cfg0.N) shapeCasts_S2500x1x512_S2500x512)
        (shapeCast S2500x256 ((dats m 0 c).arrAt 10 cfg0.N) shapeCasts_S2500x1x256_S2500x256)
        (shapeCast S2500x256 ((dats m 0 c).arrAt 11 cfg0.N) shapeCasts_S2500x1x256_S2500x256) := by
  have h9 := Pipeline.withArrays_arr spec0 arr_inj c (V0 m c) (fun w => (dats m 0 c).arrAt w cfg0.N) 9
  have h10 := Pipeline.withArrays_arr spec0 arr_inj c (V0 m c) (fun w => (dats m 0 c).arrAt w cfg0.N) 10
  have h11 := Pipeline.withArrays_arr spec0 arr_inj c (V0 m c) (fun w => (dats m 0 c).arrAt w cfg0.N) 11
  show StableHlo.after hostOps1 (Pipeline.withArrays spec0 c (V0 m c) fun w => (dats m 0 c).arrAt w cfg0.N) (Proc.devRef .tc main_v111) = _
  refine (after_out _).trans ?_
  rw [← h9, ← h10, ← h11]

end Cert.KernelIdeal.Tail

end
-- ==== Proof.KernelHost.lean ====
/-
  The nine arrays the kernel's launch reads, as the host lines before it leave them: each is the array of `HostTerms.lean`
  at the arguments' contents.

  Hand-written, untrusted.
-/
module

public import proofs.«01_k».proof.Proof.HostTerms
public import proofs.«01_k».proof.Proof.Gen.KernelIdeal.Frame
public import Idealize.ShloMosaic.Lib.StableHlo.RunRead

@[expose] public section

set_option maxRecDepth 16384

noncomputable section

namespace Cert.KernelIdeal.Host

open Idealize.ShloMosaic Idealize.ShloMosaic.TcCoe
open Cert.KernelIdeal Cert.KernelIdeal.Gen Cert.Bags

variable {F : FTy → Type} [FloatOps F]
variable (m : (ℓ : Loc nD τ sig) → Buf (Elt F) ℓ) (c : Dev nD)

/-- The contents of argument `r` on core `c` at the start. -/
abbrev arg (r : Ref sig .tc) : Buf (Elt F) ((c.tc : Thread nD τ).loc r) := m ((c.tc : Thread nD τ).loc r)

/-- The buffer the launch takes the hot table's mask from holds them as named in `HostTerms.lean`. -/
theorem V_countsHot : V m c main_v59 = countsWord (arg m c main_arg0) (arg m c main_arg1) (arg m c main_arg2) 0#32 := by
  after_reads_simp
  rfl

/-- The buffer the launch takes the hot rows from holds them as named in `HostTerms.lean`. -/
theorem V_hot : V m c main_v51 = hotRows (arg m c main_arg0) (arg m c main_arg1) (arg m c main_arg2) (arg m c main_arg3) (arg m c main_arg4) := by
  after_reads_simp
  rfl

/-- The buffer the launch takes the warm table's mask from holds them as named in `HostTerms.lean`. -/
theorem V_countsWarm : V m c main_v64 = countsWord (arg m c main_arg0) (arg m c main_arg1) (arg m c main_arg2) 1#32 := by
  after_reads_simp
  rfl

/-- The buffer the launch takes the warm rows from holds them as named in `HostTerms.lean`. -/
theorem V_warm : V m c main_v93 = warmRows (arg m c main_arg0) (arg m c main_arg1) (arg m c main_arg2) (arg m c main_arg3) (arg m c main_arg5) := by
  after_reads_simp
  rfl

/-- The buffer the launch takes the warm scales from holds them as named in `HostTerms.lean`. -/
theorem V_warmScale : V m c main_v101 = warmScale (arg m c main_arg0) (arg m c main_arg1) (arg m c main_arg2) (arg m c main_arg3) (arg m c main_arg6) := by
  after_reads_simp
  rfl

/-- The buffer the launch takes the cold table's mask from holds them as named in `HostTerms.lean`. -/
theorem V_countsCold : V m c main_v86 = countsWord (arg m c main_arg0) (arg m c main_arg1) (arg m c main_arg2) 2#32 := by
  after_reads_simp
  rfl

/-- The buffer the launch takes the cold codes from holds them as named in `HostTerms.lean`. -/
theorem V_codes : V m c main_v81 = coldCodes (arg m c main_arg0) (arg m c main_arg1) (arg m c main_arg2) (arg m c main_arg3) (arg m c main_arg7) := by
  after_reads_simp
  rfl

/-- The buffer the launch takes the cold scales from holds them as named in `HostTerms.lean`. -/
theorem V_coldScale : V m c main_v77 = column (coldScale (arg m c main_arg0) (arg m c main_arg1) (arg m c main_arg2) (arg m c main_arg3) (arg m c main_arg7)) := by
  after_reads_simp
  rfl

/-- The buffer the launch takes the cold biases from holds them as named in `HostTerms.lean`. -/
theorem V_coldBias : V m c main_v80 = column (coldBias (arg m c main_arg0) (arg m c main_arg1) (arg m c main_arg2) (arg m c main_arg3) (arg m c main_arg7)) := by
  after_reads_simp
  rfl

end Cert.KernelIdeal.Host

end
-- ==== Proof.RefArrays.lean ====
/-
  The three arrays the reference's kernel of casts leaves: each is the widening of the array it reads. The kernel runs once
  over whole arrays.

  Hand-written, untrusted.
-/
module

public import proofs.«01_k».proof.Proof.Gen.ReferenceIdeal.Frame
public import Idealize.ShloMosaic.Lib.Pipeline.Value
public import Idealize.ShloMosaic.Lib.Pipeline.ValueKit

@[expose] public section

set_option maxRecDepth 16384

noncomputable section

namespace Cert.ReferenceIdeal.Arrays

open Idealize.ShloMosaic Idealize.ShloMosaic.TcCoe
open Idealize.ShloMosaic.Pipeline (Dat)
open Cert.ReferenceIdeal Cert.ReferenceIdeal.Gen

variable {F : FTy → Type} [FloatOps F]
variable (m : (ℓ : Loc nD τ sig) → Buf (Elt F) ℓ) (c : Dev nD)

theorem hz2 : (![0, 0] : Fin 2 → Nat) = fun _ => 0 := funext fun a => by fin_cases a <;> rfl
theorem hz3 : (![0, 0, 0] : Fin 3 → Nat) = fun _ => 0 := funext fun a => by fin_cases a <;> rfl

/-- The warm rows, widened. -/
abbrev warm : Buf (Elt F) ((c : Thread nD τ).loc main_v76_0) := extf (s := S2500x128x512) .f32 (V m c main_v75) bitsLt_fp8e4m3_f32
/-- The cold scales, widened. -/
abbrev scale : Buf (Elt F) ((c : Thread nD τ).loc main_v76_1) := extf (s := S2500x128) .f32 (V m c main_v66) bitsLt_f16_f32
/-- The cold biases, widened. -/
abbrev bias : Buf (Elt F) ((c : Thread nD τ).loc main_v76_2) := extf (s := S2500x128) .f32 (V m c main_v68) bitsLt_f16_f32

/-- What the one point writes of the warm rows is the whole widened array. -/
theorem flushed3 (t : Fin cfg0.N) : (dats m 0 c).flushed 3 t = (win0_3.blk t).view.read (Elt F) (warm m c) := by
  show (cfg0.win 3).cut (grid0.coords t) ((dats m 0 c).after 3 t) = _
  rw [after0_3]
  unfold out0_3 k0_pay1
  rw [View.canon_unit_zero hz3, View.ld_unit_zero hz3]
  dsimp only
  rw [shapeCast_self]
  rfl

/-- The same of the scales. -/
theorem flushed4 (t : Fin cfg0.N) : (dats m 0 c).flushed 4 t = (win0_4.blk t).view.read (Elt F) (scale m c) := by
  show (cfg0.win 4).cut (grid0.coords t) ((dats m 0 c).after 4 t) = _
  rw [after0_4]
  unfold out0_4 k0_pay2
  rw [View.canon_unit_zero hz2, View.ld_unit_zero hz2]
  dsimp only
  rw [shapeCast_self]
  rfl

/-- The same of the biases. -/
theorem flushed5 (t : Fin cfg0.N) : (dats m 0 c).flushed 5 t = (win0_5.blk t).view.read (Elt F) (bias m c) := by
  show (cfg0.win 5).cut (grid0.coords t) ((dats m 0 c).after 5 t) = _
  rw [after0_5]
  unfold out0_5 k0_pay3
  rw [View.canon_unit_zero hz2, View.ld_unit_zero hz2]
  dsimp only
  rw [shapeCast_self]
  rfl

/-- The one grid point. -/
abbrev point : Fin cfg0.N := ⟨0, by show 0 < grid0.N; rw [N_0]; omega⟩

/-- The one point's block of the warm rows is the whole array. -/
theorem cover3 (i : S2500x128x512.Idx) : ∃ t : Fin cfg0.N, (cfg0.win 3).flush t = true ∧ i ∈ ((cfg0.win 3).blk t).view.set := by
  refine ⟨point, flush0_3 _, ?_⟩
  show i ∈ ((View.whole main_v76_0).slice (win0_3.rect point)).set
  rw [View.set_slice_whole, Rect.mem_set_unit]
  intro a
  have e : ∀ a, win0_3.index point a * win0_3.size a = 0 ∧ win0_3.xsize (grid0.coords point) a = S2500x128x512.size a := by
    decide +kernel
  have := (i a).isLt
  show win0_3.index point a * win0_3.size a ≤ (i a : Nat) ∧ (i a : Nat) < win0_3.index point a * win0_3.size a + win0_3.xsize (grid0.coords point) a
  rw [(e a).1, (e a).2]; omega

/-- The one point's block of the scales is the whole array. -/
theorem cover4 (i : S2500x128.Idx) : ∃ t : Fin cfg0.N, (cfg0.win 4).flush t = true ∧ i ∈ ((cfg0.win 4).blk t).view.set := by
  refine ⟨point, flush0_4 _, ?_⟩
  show i ∈ ((View.whole main_v76_1).slice (win0_4.rect point)).set
  rw [View.set_slice_whole, Rect.mem_set_unit]
  intro a
  have e : ∀ a, win0_4.index point a * win0_4.size a = 0 ∧ win0_4.xsize (grid0.coords point) a = S2500x128.size a := by
    decide +kernel
  have := (i a).isLt
  show win0_4.index point a * win0_4.size a ≤ (i a : Nat) ∧ (i a : Nat) < win0_4.index point a * win0_4.size a + win0_4.xsize (grid0.coords point) a
  rw [(e a).1, (e a).2]; omega

/-- The one point's block of the biases is the whole array. -/
theorem cover5 (i : S2500x128.Idx) : ∃ t : Fin cfg0.N, (cfg0.win 5).flush t = true ∧ i ∈ ((cfg0.win 5).blk t).view.set := by
  refine ⟨point, flush0_5 _, ?_⟩
  show i ∈ ((View.whole main_v76_2).slice (win0_5.rect point)).set
  rw [View.set_slice_whole, Rect.mem_set_unit]
  intro a
  have e : ∀ a, win0_5.index point a * win0_5.size a = 0 ∧ win0_5.xsize (grid0.coords point) a = S2500x128.size a := by
    decide +kernel
  have := (i a).isLt
  show win0_5.index point a * win0_5.size a ≤ (i a : Nat) ∧ (i a : Nat) < win0_5.index point a * win0_5.size a + win0_5.xsize (grid0.coords point) a
  rw [(e a).1, (e a).2]; omega

/-- The kernel of casts leaves the widened warm rows, -/
theorem final3 : (dats m 0 c).arrAt 3 cfg0.N = warm m c :=
  (dats m 0 c).arrAt_eq_of_cover 3 (warm m c) (fun t _ => flushed3 m c t) cover3
/-- the widened scales -/
theorem final4 : (dats m 0 c).arrAt 4 cfg0.N = scale m c :=
  (dats m 0 c).arrAt_eq_of_cover 4 (scale m c) (fun t _ => flushed4 m c t) cover4
/-- and the widened biases. -/
theorem final5 : (dats m 0 c).arrAt 5 cfg0.N = bias m c :=
  (dats m 0 c).arrAt_eq_of_cover 5 (bias m c) (fun t _ => flushed5 m c t) cover5

end Cert.ReferenceIdeal.Arrays

end
-- ==== Proof.RefResult.lean ====
/-
  The reference's result, as a function of its arguments: the sums of `RefTail.lean` at the arrays of `HostTerms.lean`.

  Hand-written, untrusted.
-/
module

public import proofs.«01_k».proof.Proof.RefTail
public import proofs.«01_k».proof.Proof.RefArrays

@[expose] public section

set_option maxRecDepth 16384

noncomputable section

namespace Cert.ReferenceIdeal.Tail

open Idealize.ShloMosaic Idealize.ShloMosaic.TcCoe
open Cert.ReferenceIdeal Cert.ReferenceIdeal.Gen Cert.Bags Cert.ReferenceIdeal.Host Cert.ReferenceIdeal.Arrays

variable {F : FTy → Type} [FloatOps F]

/-- The pooled rows of every bag, from the arguments: which rows each bag reads, the rows widened and scaled, the sums over the
    places that count, and the last lines. -/
def pooled (a0 : Arr F S320000 .i32) (a1 : Arr F S2501 .i32) (a2 a3 : Arr F S830000 .i32) (a4 : Arr F S10000x512 .bf16)
    (a5 : Arr F S120000x512 .fp8e4m3) (a6 : Arr F S120000 .f32) (a7 : Arr F S700000x260 .i8) : Arr F S2500x512 .bf16 :=
  combine
    (hotWarmSum (counts a0 a1 a2 0#32) (counts a0 a1 a2 1#32) (hotRows a0 a1 a2 a3 a4)
      (extf (F := F) (s := S2500x128x512) .f32 (warmRows a0 a1 a2 a3 a5) bitsLt_fp8e4m3_f32) (warmScale a0 a1 a2 a3 a6))
    (coldSum (counts a0 a1 a2 2#32) (lowHalf (extui 32 (coldCodes a0 a1 a2 a3 a7) natLt_8_32))
      (extf (F := F) (s := S2500x128) .f32 (coldScale a0 a1 a2 a3 a7) bitsLt_f16_f32)
      (extf (F := F) (s := S2500x128) .f32 (coldBias a0 a1 a2 a3 a7) bitsLt_f16_f32))
    (coldSum (counts a0 a1 a2 2#32) (highHalf (extui 32 (coldCodes a0 a1 a2 a3 a7) natLt_8_32))
      (extf (F := F) (s := S2500x128) .f32 (coldScale a0 a1 a2 a3 a7) bitsLt_f16_f32)
      (extf (F := F) (s := S2500x128) .f32 (coldBias a0 a1 a2 a3 a7) bitsLt_f16_f32))

variable (m : (ℓ : Loc nD τ sig) → Buf (Elt F) ℓ) (c : Dev nD)

/-- The arrays' references are distinct. -/
theorem arr_inj : Function.Injective (Pipeline.arrRef (sig := sig) spec0) := by decide

/-- What the buffers hold when the lines after the kernel of casts start. -/
abbrev exit : Valuation τ sig (Elt F) := Pipeline.withArrays spec0 c (V0 m c) fun w => (dats m 0 c).arrAt w cfg0.N

/-- A buffer that is none of the kernel's arrays is as the kernel of casts found it. -/
theorem exit_of_ne (b : Ref sig .tc) (h : ∀ w, Pipeline.arrRef spec0 w ≠ b) : exit m c (Proc.devRef .tc b) = V m c b :=
  Pipeline.withArrays_of_ne spec0 c (V0 m c) _ b h

/-- The widened warm rows, -/
theorem exit_warm : exit m c (Proc.devRef .tc main_v76_0) = warm m c :=
  (Pipeline.withArrays_arr spec0 arr_inj c (V0 m c) (fun w => (dats m 0 c).arrAt w cfg0.N) 3).trans (final3 m c)

/-- the widened scales -/
theorem exit_scale : exit m c (Proc.devRef .tc main_v76_1) = scale m c :=
  (Pipeline.withArrays_arr spec0 arr_inj c (V0 m c) (fun w => (dats m 0 c).arrAt w cfg0.N) 4).trans (final4 m c)

/-- and the widened biases. -/
theorem exit_bias : exit m c (Proc.devRef .tc main_v76_2) = bias m c :=
  (Pipeline.withArrays_arr spec0 arr_inj c (V0 m c) (fun w => (dats m 0 c).arrAt w cfg0.N) 5).trans (final5 m c)

/-- The reference's result buffer at the end is `pooled` of its arguments. -/
theorem result : Pipeline.afterTail₀ cfgs (dats m) 0 (V0 m)
      [hostOps1, hostOps1_1, hostOps1_2, hostOps1_3, hostOps1_4, hostOps1_5, hostOps1_6, hostOps1_7] c main_v129
    = pooled (arg m c main_arg0) (arg m c main_arg1) (arg m c main_arg2) (arg m c main_arg3) (arg m c main_arg4)
        (arg m c main_arg5) (arg m c main_arg6) (arg m c main_arg7) := by
  show StableHlo.after tail (exit m c) (Proc.devRef .tc main_v129) = _
  rw [after_out, after_hotWarm, after_low, after_high, exit_warm, exit_scale, exit_bias,
    exit_of_ne m c main_v19 (by decide), exit_of_ne m c main_v33 (by decide), exit_of_ne m c main_v57 (by decide),
    exit_of_ne m c main_v46 (by decide), exit_of_ne m c main_v64 (by decide), exit_of_ne m c main_arg6 (by decide),
    V_inBag, V_entry, V_hot, V_index, V_cold, V_main_arg6]
  unfold warm scale bias
  rw [V_warm, V_coldScale, V_coldBias]
  rfl

end Cert.ReferenceIdeal.Tail

end
-- ==== Proof.Sums.lean ====
/-
  The three sums over a bag's 128 places, as the reference's host lines take them and as the kernel's blocks hold them: equal,
  for any masks, rows, scales and biases. The two spell three things differently. The kernel carries a mask as a 32-bit word and
  tests it against zero. It takes `code & 15` on the 8-bit code and reads the result as unsigned, where the reference first
  widens the code to 32 bits and reads a signed number. And it keeps an axis of one place for the bag.

  Hand-written, untrusted.
-/
module

public import proofs.«01_k».proof.Proof.Block
public import proofs.«01_k».proof.Proof.RefTail

@[expose] public section

set_option maxRecDepth 16384

noncomputable section

namespace Cert.Sums

open Idealize.ShloMosaic Idealize.ShloMosaic.TcCoe
open Cert.KernelIdeal Cert.KernelIdeal.Gen Cert.KernelIdeal.Block Cert.Bags
open Cert.ReferenceIdeal.Tail (hotWarmSum coldSum lowHalf highHalf)

/-- A mask widened to 32 bits is set exactly where it was. -/
theorem counted_word : ∀ b : BitVec 1, counted (BitVec.setWidth 32 b) = b := by decide

/-- The low half of a code is the same number read from 8 bits as unsigned and from 32 bits as signed. -/
theorem low_num : ∀ k : BitVec 8, ((k &&& 15#8).toNat : Int) = (BitVec.setWidth 32 k &&& 15#32).toInt := by decide +kernel

/-- So it is the same extended real. -/
theorem low_float (k : BitVec 8) : FloatOps.uitofp (F := Ideal) .f32 (IntOp.andi k 15#8)
    = FloatOps.sitofp (F := Ideal) .f32 (IntOp.andi (BitVec.setWidth 32 k) 15#32) := by
  show (((k &&& 15#8).toNat : ℝ) : EReal) = (((BitVec.setWidth 32 k &&& 15#32).toInt : ℝ) : EReal)
  rw [← low_num k]
  push_cast
  rfl

/-- The kernel's hot and warm sums, with the axis of one place dropped, are the reference's. -/
theorem hotWarm_sum (cH cW : Arr Ideal S2500x128x1 .i1) (hot : Arr Ideal S2500x128x512 .f32)
    (w : Arr Ideal S2500x128x512 .fp8e4m3) (s : Arr Ideal S2500x128x1 .f32) :
    shapeCast S2500x512 (fun i : S2500x1x512.Idx => ∑ x : Fin 128, hotWarm (extui 32 cH natLt_1_32 (ix3 (i 0) x 0))
        (hot (ix3 (i 0) x (i 2))) (extui 32 cW natLt_1_32 (ix3 (i 0) x 0)) (w (ix3 (i 0) x (i 2))) (s (ix3 (i 0) x 0)))
        shapeCasts_S2500x1x512_S2500x512
      = hotWarmSum cH cW hot (extf (F := Ideal) (s := S2500x128x512) .f32 w bitsLt_fp8e4m3_f32) s := by
  funext i
  unfold hotWarmSum
  pointwise
  refine Finset.sum_congr rfl fun x _ => ?_
  unfold hotWarm
  rw [counted_word, counted_word]

/-- The kernel's sums of low halves, with the axis of one place dropped, are the reference's. -/
theorem low_sum (mc : Arr Ideal S2500x128x1 .i1) (k : Arr Ideal S2500x128x256 .i8) (s b : Arr Ideal S2500x128 .f16) :
    shapeCast S2500x256 (fun i : S2500x1x256.Idx => ∑ x : Fin 128, low (extui 32 mc natLt_1_32 (ix3 (i 0) x 0))
        (k (ix3 (i 0) x (i 2))) (column s (ix3 (i 0) x 0)) (column b (ix3 (i 0) x 0)))
        shapeCasts_S2500x1x256_S2500x256
      = coldSum mc (lowHalf (extui 32 k Cert.ReferenceIdeal.Gen.natLt_8_32)) (extf (F := Ideal) (s := S2500x128) .f32 s bitsLt_f16_f32) (extf (F := Ideal) (s := S2500x128) .f32 b bitsLt_f16_f32) := by
  funext i
  unfold coldSum lowHalf column
  pointwise
  refine Finset.sum_congr rfl fun x _ => ?_
  unfold low
  rw [counted_word, low_float]

/-- The kernel's sums of high halves, with the axis of one place dropped, are the reference's. -/
theorem high_sum (mc : Arr Ideal S2500x128x1 .i1) (k : Arr Ideal S2500x128x256 .i8) (s b : Arr Ideal S2500x128 .f16) :
    shapeCast S2500x256 (fun i : S2500x1x256.Idx => ∑ x : Fin 128, high (extui 32 mc natLt_1_32 (ix3 (i 0) x 0))
        (k (ix3 (i 0) x (i 2))) (column s (ix3 (i 0) x 0)) (column b (ix3 (i 0) x 0)))
        shapeCasts_S2500x1x256_S2500x256
      = coldSum mc (highHalf (extui 32 k Cert.ReferenceIdeal.Gen.natLt_8_32)) (extf (F := Ideal) (s := S2500x128) .f32 s bitsLt_f16_f32) (extf (F := Ideal) (s := S2500x128) .f32 b bitsLt_f16_f32) := by
  funext i
  unfold coldSum highHalf column
  pointwise
  refine Finset.sum_congr rfl fun x _ => ?_
  unfold high
  rw [counted_word]
  rfl

end Cert.Sums

end
-- ==== Proof.KernelResult.lean ====
/-
  The kernel's result is the reference's function of the same arguments: its launch's three arrays are the sums of `Sums.lean`
  at the arrays of `HostTerms.lean`, and the last lines are the same.

  Hand-written, untrusted.
-/
module

public import proofs.«01_k».proof.Proof.KernelArrays
public import proofs.«01_k».proof.Proof.KernelTail
public import proofs.«01_k».proof.Proof.KernelHost
public import proofs.«01_k».proof.Proof.RefResult
public import proofs.«01_k».proof.Proof.Sums

@[expose] public section

set_option maxRecDepth 16384

noncomputable section

namespace Cert.KernelIdeal.Tail

open Idealize.ShloMosaic Idealize.ShloMosaic.TcCoe
open Cert.KernelIdeal Cert.KernelIdeal.Gen Cert.Bags Cert.KernelIdeal.Host Cert.KernelIdeal.Arrays Cert.Sums
open Cert.ReferenceIdeal.Tail (pooled)

variable (m : (ℓ : Loc nD τ sig) → Buf (Elt Ideal) ℓ) (c : Dev nD)

/-- The kernel's result buffer at the end is `pooled` of its arguments. -/
theorem result_pooled : Pipeline.afterTail₀ cfgs (dats m) 0 (V0 m) [hostOps1] c main_v111
    = pooled (arg m c main_arg0) (arg m c main_arg1) (arg m c main_arg2) (arg m c main_arg3) (arg m c main_arg4)
        (arg m c main_arg5) (arg m c main_arg6) (arg m c main_arg7) := by
  rw [result, final9, final10, final11]
  unfold hotWarmArray lowArray highArray
  rw [V_countsHot, V_hot, V_countsWarm, V_warm, V_warmScale, V_countsCold, V_codes, V_coldScale, V_coldBias]
  unfold pooled
  rw [← hotWarm_sum, ← low_sum, ← high_sum]
  rfl

end Cert.KernelIdeal.Tail

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelResult
public import proofs.«01_k».proof.Proof.RefResult
public import Idealize.ShloMosaic.Adequacy
public import Idealize.ShloMosaic.Init

@[expose] public section

noncomputable section

namespace Cert.Proof

open Idealize.ShloMosaic Idealize.SL.Sem Cert.Kernel

/-- Every execution of the kernel ends with its result buffer at `pooled` of its arguments, and its arguments unchanged;
    every execution of the reference from the same arguments ends with the same array. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => Pipeline.afterTail₀ Cert.KernelIdeal.cfgs (Cert.KernelIdeal.Gen.dats m) 0 (Cert.KernelIdeal.Gen.V0 m)
    [Cert.KernelIdeal.Gen.hostOps1] c Cert.KernelIdeal.main_v111, ?_, ?_⟩
  · exact θ_run_mono (θ_run_and (Cert.KernelIdeal.Gen.run_main m g) (Cert.KernelIdeal.Gen.unchanged m g)) fun r h c =>
      ⟨(h.1 c).2 Cert.KernelIdeal.main_v111
        (Pipeline.mem_restRefs_of Cert.KernelIdeal.main_v111 (by decide) (by decide)), h.2 c⟩
  · refine θ_run_mono (θ_run_and (Cert.ReferenceIdeal.Gen.run_main m' g') (Cert.ReferenceIdeal.Gen.unchanged m' g'))
      fun r h c => ⟨?_, h.2 c⟩
    refine ((h.1 c).2 Cert.ReferenceIdeal.main_v129
      (Pipeline.mem_restRefs_of Cert.ReferenceIdeal.main_v129 (by decide) (by decide))).trans ?_
    refine (Cert.ReferenceIdeal.Tail.result m' c).trans ?_
    refine Eq.trans ?_ (Cert.KernelIdeal.Tail.result_pooled m c).symm
    obtain ⟨h0, h1, h2, h3, h4, h5, h6, h7⟩ := hagree c
    unfold Cert.ReferenceIdeal.Host.arg Cert.KernelIdeal.Host.arg
    rw [h0, h1, h2, h3, h4, h5, h6, h7]

/-- The claim: the three frames, the kernel's idealization and the equality of the results. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
